-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S1984x512 : Shape := ⟨2, ![1984, 512]⟩
abbrev S20 : Shape := ⟨1, ![20]⟩
abbrev S5 : Shape := ⟨1, ![5]⟩
abbrev S_ : Shape := ⟨0, ![]⟩
abbrev S1 : Shape := ⟨1, ![1]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S1984x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_14 : BitVec 32 := 8#32
  let v41 : BitVec 32 := Scalar.muli v19 c8_i32_14
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_85 : BitVec 32 := 1#32
  let v192 : BitVec 32 := Scalar.muli v46 c1_i32_85
  let v193 : BitVec 32 := Scalar.addi c0_i32_86 v192
  v193.toNat
def k0_dev2 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v68 : BitVec 32 := Scalar.muli v19 c8_i32_27
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_17 : BitVec 32 := 1#32
  let v47 : BitVec 32 := Scalar.addi v37 c1_i32_17
  let c2_i32_26 : BitVec 32 := 2#32
  let c0_i32_19 : BitVec 32 := 0#32
  let v49 : BitVec 1 := Scalar.cmpi .sgt v37 c0_i32_19
  let v50 : BitVec 32 := Scalar.extui v49
  let c0_i32_20 : BitVec 32 := 0#32
  let v51 : BitVec 1 := Scalar.cmpi .slt v37 c0_i32_20
  let v52 : BitVec 32 := Scalar.extui v51
  let v53 : BitVec 32 := Scalar.subi v50 v52
  let c1_i32_18 : BitVec 32 := 1#32
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi v37 c1_i32_18
  let c0_i32_23 : BitVec 32 := 0#32
  let v61 : BitVec 1 := Scalar.cmpi .ne v60 c0_i32_23
  let v62 : BitVec 1 := Scalar.andi v59 v61
  let v48 : BitVec 32 := Scalar.divsi v37 c1_i32_18
  let c1_i32_24 : BitVec 32 := 1#32
  let v63 : BitVec 32 := Scalar.subi v48 c1_i32_24
  let v64 : BitVec 32 := Scalar.select v62 v63 v48
  let c2_i32_25 : BitVec 32 := 2#32
  let v65 : BitVec 32 := Scalar.remsi v64 c2_i32_25
  let v66 : BitVec 32 := Scalar.muli c2_i32_26 v65
  let v67 : BitVec 32 := Scalar.subi v47 v66
  let c2_i32_28 : BitVec 32 := 2#32
  let v69 : BitVec 32 := Scalar.muli v67 c2_i32_28
  let v70 : BitVec 32 := Scalar.addi v68 v69
  let v38 : BitVec 32 := Scalar.addi v20 v37
  let c2_i32_12 : BitVec 32 := 2#32
  let v39 : BitVec 32 := Scalar.remsi v38 c2_i32_12
  let v71 : BitVec 32 := Scalar.addi v39 v67
  let c2_i32_29 : BitVec 32 := 2#32
  let v72 : BitVec 32 := Scalar.remsi v71 c2_i32_29
  let v73 : BitVec 32 := Scalar.addi v70 v72
  let c1_i32_88 : BitVec 32 := 1#32
  let v194 : BitVec 32 := Scalar.muli v73 c1_i32_88
  let v195 : BitVec 32 := Scalar.addi c0_i32_89 v194
  v195.toNat
def k0_dev3 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_30 : BitVec 32 := 1#32
  let v74 : BitVec 32 := Scalar.addi v19 c1_i32_30
  let c2_i32_39 : BitVec 32 := 2#32
  let c0_i32_32 : BitVec 32 := 0#32
  let v76 : BitVec 1 := Scalar.cmpi .sgt v19 c0_i32_32
  let v77 : BitVec 32 := Scalar.extui v76
  let c0_i32_33 : BitVec 32 := 0#32
  let v78 : BitVec 1 := Scalar.cmpi .slt v19 c0_i32_33
  let v79 : BitVec 32 := Scalar.extui v78
  let v80 : BitVec 32 := Scalar.subi v77 v79
  let c1_i32_31 : BitVec 32 := 1#32
  let c0_i32_34 : BitVec 32 := 0#32
  let v81 : BitVec 1 := Scalar.cmpi .sgt c1_i32_31 c0_i32_34
  let v82 : BitVec 32 := Scalar.extui v81
  let c0_i32_35 : BitVec 32 := 0#32
  let v83 : BitVec 1 := Scalar.cmpi .slt c1_i32_31 c0_i32_35
  let v84 : BitVec 32 := Scalar.extui v83
  let v85 : BitVec 32 := Scalar.subi v82 v84
  let v86 : BitVec 1 := Scalar.cmpi .ne v80 v85
  let v87 : BitVec 32 := Scalar.remsi v19 c1_i32_31
  let c0_i32_36 : BitVec 32 := 0#32
  let v88 : BitVec 1 := Scalar.cmpi .ne v87 c0_i32_36
  let v89 : BitVec 1 := Scalar.andi v86 v88
  let v75 : BitVec 32 := Scalar.divsi v19 c1_i32_31
  let c1_i32_37 : BitVec 32 := 1#32
  let v90 : BitVec 32 := Scalar.subi v75 c1_i32_37
  let v91 : BitVec 32 := Scalar.select v89 v90 v75
  let c2_i32_38 : BitVec 32 := 2#32
  let v92 : BitVec 32 := Scalar.remsi v91 c2_i32_38
  let v93 : BitVec 32 := Scalar.muli c2_i32_39 v92
  let v94 : BitVec 32 := Scalar.subi v74 v93
  let c8_i32_40 : BitVec 32 := 8#32
  let v95 : BitVec 32 := Scalar.muli v94 c8_i32_40
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_41 : BitVec 32 := 2#32
  let v96 : BitVec 32 := Scalar.muli v37 c2_i32_41
  let v97 : BitVec 32 := Scalar.addi v95 v96
  let v38 : BitVec 32 := Scalar.addi v20 v37
  let c2_i32_12 : BitVec 32 := 2#32
  let v39 : BitVec 32 := Scalar.remsi v38 c2_i32_12
  let v98 : BitVec 32 := Scalar.addi v39 v37
  let c2_i32_42 : BitVec 32 := 2#32
  let v99 : BitVec 32 := Scalar.remsi v98 c2_i32_42
  let v100 : BitVec 32 := Scalar.addi v97 v99
  let c1_i32_91 : BitVec 32 := 1#32
  let v196 : BitVec 32 := Scalar.muli v100 c1_i32_91
  let v197 : BitVec 32 := Scalar.addi c0_i32_92 v196
  v197.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_52 : BitVec 32 := 8#32
  let v122 : BitVec 32 := Scalar.muli v19 c8_i32_52
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_43 : BitVec 32 := 2#32
  let v101 : BitVec 32 := Scalar.addi v37 c2_i32_43
  let c4_i32 : BitVec 32 := 4#32
  let c0_i32_45 : BitVec 32 := 0#32
  let v103 : BitVec 1 := Scalar.cmpi .sgt v37 c0_i32_45
  let v104 : BitVec 32 := Scalar.extui v103
  let c0_i32_46 : BitVec 32 := 0#32
  let v105 : BitVec 1 := Scalar.cmpi .slt v37 c0_i32_46
  let v106 : BitVec 32 := Scalar.extui v105
  let v107 : BitVec 32 := Scalar.subi v104 v106
  let c2_i32_44 : BitVec 32 := 2#32
  let c0_i32_47 : BitVec 32 := 0#32
  let v108 : BitVec 1 := Scalar.cmpi .sgt c2_i32_44 c0_i32_47
  let v109 : BitVec 32 := Scalar.extui v108
  let c0_i32_48 : BitVec 32 := 0#32
  let v110 : BitVec 1 := Scalar.cmpi .slt c2_i32_44 c0_i32_48
  let v111 : BitVec 32 := Scalar.extui v110
  let v112 : BitVec 32 := Scalar.subi v109 v111
  let v113 : BitVec 1 := Scalar.cmpi .ne v107 v112
  let v114 : BitVec 32 := Scalar.remsi v37 c2_i32_44
  let c0_i32_49 : BitVec 32 := 0#32
  let v115 : BitVec 1 := Scalar.cmpi .ne v114 c0_i32_49
  let v116 : BitVec 1 := Scalar.andi v113 v115
  let v102 : BitVec 32 := Scalar.divsi v37 c2_i32_44
  let c1_i32_50 : BitVec 32 := 1#32
  let v117 : BitVec 32 := Scalar.subi v102 c1_i32_50
  let v118 : BitVec 32 := Scalar.select v116 v117 v102
  let c2_i32_51 : BitVec 32 := 2#32
  let v119 : BitVec 32 := Scalar.remsi v118 c2_i32_51
  let v120 : BitVec 32 := Scalar.muli c4_i32 v119
  let v121 : BitVec 32 := Scalar.subi v101 v120
  let c2_i32_53 : BitVec 32 := 2#32
  let v123 : BitVec 32 := Scalar.muli v121 c2_i32_53
  let v124 : BitVec 32 := Scalar.addi v122 v123
  let v38 : BitVec 32 := Scalar.addi v20 v37
  let c2_i32_12 : BitVec 32 := 2#32
  let v39 : BitVec 32 := Scalar.remsi v38 c2_i32_12
  let v125 : BitVec 32 := Scalar.addi v39 v121
  let c2_i32_54 : BitVec 32 := 2#32
  let v126 : BitVec 32 := Scalar.remsi v125 c2_i32_54
  let v127 : BitVec 32 := Scalar.addi v124 v126
  let c1_i32_94 : BitVec 32 := 1#32
  let v198 : BitVec 32 := Scalar.muli v127 c1_i32_94
  let v199 : BitVec 32 := Scalar.addi c0_i32_95 v198
  v199.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v128 : BitVec 32 := Scalar.addi v19 c2_i32_55
  let c4_i32_64 : BitVec 32 := 4#32
  let c0_i32_57 : BitVec 32 := 0#32
  let v130 : BitVec 1 := Scalar.cmpi .sgt v19 c0_i32_57
  let v131 : BitVec 32 := Scalar.extui v130
  let c0_i32_58 : BitVec 32 := 0#32
  let v132 : BitVec 1 := Scalar.cmpi .slt v19 c0_i32_58
  let v133 : BitVec 32 := Scalar.extui v132
  let v134 : BitVec 32 := Scalar.subi v131 v133
  let c2_i32_56 : BitVec 32 := 2#32
  let c0_i32_59 : BitVec 32 := 0#32
  let v135 : BitVec 1 := Scalar.cmpi .sgt c2_i32_56 c0_i32_59
  let v136 : BitVec 32 := Scalar.extui v135
  let c0_i32_60 : BitVec 32 := 0#32
  let v137 : BitVec 1 := Scalar.cmpi .slt c2_i32_56 c0_i32_60
  let v138 : BitVec 32 := Scalar.extui v137
  let v139 : BitVec 32 := Scalar.subi v136 v138
  let v140 : BitVec 1 := Scalar.cmpi .ne v134 v139
  let v141 : BitVec 32 := Scalar.remsi v19 c2_i32_56
  let c0_i32_61 : BitVec 32 := 0#32
  let v142 : BitVec 1 := Scalar.cmpi .ne v141 c0_i32_61
  let v143 : BitVec 1 := Scalar.andi v140 v142
  let v129 : BitVec 32 := Scalar.divsi v19 c2_i32_56
  let c1_i32_62 : BitVec 32 := 1#32
  let v144 : BitVec 32 := Scalar.subi v129 c1_i32_62
  let v145 : BitVec 32 := Scalar.select v143 v144 v129
  let c2_i32_63 : BitVec 32 := 2#32
  let v146 : BitVec 32 := Scalar.remsi v145 c2_i32_63
  let v147 : BitVec 32 := Scalar.muli c4_i32_64 v146
  let v148 : BitVec 32 := Scalar.subi v128 v147
  let c8_i32_65 : BitVec 32 := 8#32
  let v149 : BitVec 32 := Scalar.muli v148 c8_i32_65
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_66 : BitVec 32 := 2#32
  let v150 : BitVec 32 := Scalar.muli v37 c2_i32_66
  let v151 : BitVec 32 := Scalar.addi v149 v150
  let v38 : BitVec 32 := Scalar.addi v20 v37
  let c2_i32_12 : BitVec 32 := 2#32
  let v39 : BitVec 32 := Scalar.remsi v38 c2_i32_12
  let v152 : BitVec 32 := Scalar.addi v39 v37
  let c2_i32_67 : BitVec 32 := 2#32
  let v153 : BitVec 32 := Scalar.remsi v152 c2_i32_67
  let v154 : BitVec 32 := Scalar.addi v151 v153
  let c1_i32_97 : BitVec 32 := 1#32
  let v200 : BitVec 32 := Scalar.muli v154 c1_i32_97
  let v201 : BitVec 32 := Scalar.addi c0_i32_98 v200
  v201.toNat
def k0_off1 (d0 : Dev nD) : Fin 2 → Nat :=
  let c0_i32_103 : BitVec 32 := 0#32
  let c1_i32_102 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v208 : BitVec 32 := Scalar.subi c1_i32_102 v39
  let c512_i32 : BitVec 32 := 512#32
  let v209 : BitVec 32 := Scalar.muli v208 c512_i32
  let v210 : BitVec 32 := Scalar.addi c0_i32_103 v209
  let c0_i32_110 : BitVec 32 := 0#32
  ![v210.toNat, 0]
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_14 : BitVec 32 := 8#32
  let v41 : BitVec 32 := Scalar.muli v19 c8_i32_14
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_106 : BitVec 32 := 1#32
  let v211 : BitVec 32 := Scalar.muli v46 c1_i32_106
  let v212 : BitVec 32 := Scalar.addi c0_i32_107 v211
  v212.toNat
def k0_off2 (d0 : Dev nD) : Fin 2 → Nat :=
  let c1024_i32 : BitVec 32 := 1024#32
  let c1_i32_111 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let v219 : BitVec 32 := Scalar.subi c1_i32_111 v155
  let c512_i32_112 : BitVec 32 := 512#32
  let v220 : BitVec 32 := Scalar.muli v219 c512_i32_112
  let v221 : BitVec 32 := Scalar.addi c1024_i32 v220
  let c0_i32_118 : BitVec 32 := 0#32
  ![v221.toNat, 0]
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v68 : BitVec 32 := Scalar.muli v19 c8_i32_27
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_17 : BitVec 32 := 1#32
  let v47 : BitVec 32 := Scalar.addi v37 c1_i32_17
  let c2_i32_26 : BitVec 32 := 2#32
  let c0_i32_19 : BitVec 32 := 0#32
  let v49 : BitVec 1 := Scalar.cmpi .sgt v37 c0_i32_19
  let v50 : BitVec 32 := Scalar.extui v49
  let c0_i32_20 : BitVec 32 := 0#32
  let v51 : BitVec 1 := Scalar.cmpi .slt v37 c0_i32_20
  let v52 : BitVec 32 := Scalar.extui v51
  let v53 : BitVec 32 := Scalar.subi v50 v52
  let c1_i32_18 : BitVec 32 := 1#32
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi v37 c1_i32_18
  let c0_i32_23 : BitVec 32 := 0#32
  let v61 : BitVec 1 := Scalar.cmpi .ne v60 c0_i32_23
  let v62 : BitVec 1 := Scalar.andi v59 v61
  let v48 : BitVec 32 := Scalar.divsi v37 c1_i32_18
  let c1_i32_24 : BitVec 32 := 1#32
  let v63 : BitVec 32 := Scalar.subi v48 c1_i32_24
  let v64 : BitVec 32 := Scalar.select v62 v63 v48
  let c2_i32_25 : BitVec 32 := 2#32
  let v65 : BitVec 32 := Scalar.remsi v64 c2_i32_25
  let v66 : BitVec 32 := Scalar.muli c2_i32_26 v65
  let v67 : BitVec 32 := Scalar.subi v47 v66
  let c2_i32_28 : BitVec 32 := 2#32
  let v69 : BitVec 32 := Scalar.muli v67 c2_i32_28
  let v70 : BitVec 32 := Scalar.addi v68 v69
  let v38 : BitVec 32 := Scalar.addi v20 v37
  let c2_i32_12 : BitVec 32 := 2#32
  let v39 : BitVec 32 := Scalar.remsi v38 c2_i32_12
  let v71 : BitVec 32 := Scalar.addi v39 v67
  let c2_i32_29 : BitVec 32 := 2#32
  let v72 : BitVec 32 := Scalar.remsi v71 c2_i32_29
  let v73 : BitVec 32 := Scalar.addi v70 v72
  let c1_i32_115 : BitVec 32 := 1#32
  let v222 : BitVec 32 := Scalar.muli v73 c1_i32_115
  let v223 : BitVec 32 := Scalar.addi c0_i32_116 v222
  v223.toNat
def k0_off3 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let v238 : Index := Scalar.indexCast v231
  let c0_128 : Index := 0#32
  ![v238.toNat, 0]
def k0_off4 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let v254 : Index := Scalar.indexCast v247
  let c0_141 : Index := 0#32
  ![v254.toNat, 0]
def k0_off5 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c1_i32_144 : BitVec 32 := 1#32
  let c2_i32_68 : BitVec 32 := 2#32
  let v155 : BitVec 32 := Scalar.remsi v37 c2_i32_68
  let v262 : BitVec 32 := Scalar.subi c1_i32_144 v155
  let c256_i32 : BitVec 32 := 256#32
  let v263 : BitVec 32 := Scalar.muli v262 c256_i32
  let v264 : BitVec 32 := Scalar.addi v231 v263
  let c0_i32_151 : BitVec 32 := 0#32
  ![v264.toNat, 0]
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v68 : BitVec 32 := Scalar.muli v19 c8_i32_27
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_17 : BitVec 32 := 1#32
  let v47 : BitVec 32 := Scalar.addi v37 c1_i32_17
  let c2_i32_26 : BitVec 32 := 2#32
  let c0_i32_19 : BitVec 32 := 0#32
  let v49 : BitVec 1 := Scalar.cmpi .sgt v37 c0_i32_19
  let v50 : BitVec 32 := Scalar.extui v49
  let c0_i32_20 : BitVec 32 := 0#32
  let v51 : BitVec 1 := Scalar.cmpi .slt v37 c0_i32_20
  let v52 : BitVec 32 := Scalar.extui v51
  let v53 : BitVec 32 := Scalar.subi v50 v52
  let c1_i32_18 : BitVec 32 := 1#32
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi v37 c1_i32_18
  let c0_i32_23 : BitVec 32 := 0#32
  let v61 : BitVec 1 := Scalar.cmpi .ne v60 c0_i32_23
  let v62 : BitVec 1 := Scalar.andi v59 v61
  let v48 : BitVec 32 := Scalar.divsi v37 c1_i32_18
  let c1_i32_24 : BitVec 32 := 1#32
  let v63 : BitVec 32 := Scalar.subi v48 c1_i32_24
  let v64 : BitVec 32 := Scalar.select v62 v63 v48
  let c2_i32_25 : BitVec 32 := 2#32
  let v65 : BitVec 32 := Scalar.remsi v64 c2_i32_25
  let v66 : BitVec 32 := Scalar.muli c2_i32_26 v65
  let v67 : BitVec 32 := Scalar.subi v47 v66
  let c2_i32_28 : BitVec 32 := 2#32
  let v69 : BitVec 32 := Scalar.muli v67 c2_i32_28
  let v70 : BitVec 32 := Scalar.addi v68 v69
  let v38 : BitVec 32 := Scalar.addi v20 v37
  let c2_i32_12 : BitVec 32 := 2#32
  let v39 : BitVec 32 := Scalar.remsi v38 c2_i32_12
  let v71 : BitVec 32 := Scalar.addi v39 v67
  let c2_i32_29 : BitVec 32 := 2#32
  let v72 : BitVec 32 := Scalar.remsi v71 c2_i32_29
  let v73 : BitVec 32 := Scalar.addi v70 v72
  let c1_i32_147 : BitVec 32 := 1#32
  let v265 : BitVec 32 := Scalar.muli v73 c1_i32_147
  let v266 : BitVec 32 := Scalar.addi c0_i32_148 v265
  v266.toNat
def k0_off6 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c1_i32_152 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let v273 : BitVec 32 := Scalar.subi c1_i32_152 v156
  let c256_i32_153 : BitVec 32 := 256#32
  let v274 : BitVec 32 := Scalar.muli v273 c256_i32_153
  let v275 : BitVec 32 := Scalar.addi v247 v274
  let c0_i32_158 : BitVec 32 := 0#32
  ![v275.toNat, 0]
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_30 : BitVec 32 := 1#32
  let v74 : BitVec 32 := Scalar.addi v19 c1_i32_30
  let c2_i32_39 : BitVec 32 := 2#32
  let c0_i32_32 : BitVec 32 := 0#32
  let v76 : BitVec 1 := Scalar.cmpi .sgt v19 c0_i32_32
  let v77 : BitVec 32 := Scalar.extui v76
  let c0_i32_33 : BitVec 32 := 0#32
  let v78 : BitVec 1 := Scalar.cmpi .slt v19 c0_i32_33
  let v79 : BitVec 32 := Scalar.extui v78
  let v80 : BitVec 32 := Scalar.subi v77 v79
  let c1_i32_31 : BitVec 32 := 1#32
  let c0_i32_34 : BitVec 32 := 0#32
  let v81 : BitVec 1 := Scalar.cmpi .sgt c1_i32_31 c0_i32_34
  let v82 : BitVec 32 := Scalar.extui v81
  let c0_i32_35 : BitVec 32 := 0#32
  let v83 : BitVec 1 := Scalar.cmpi .slt c1_i32_31 c0_i32_35
  let v84 : BitVec 32 := Scalar.extui v83
  let v85 : BitVec 32 := Scalar.subi v82 v84
  let v86 : BitVec 1 := Scalar.cmpi .ne v80 v85
  let v87 : BitVec 32 := Scalar.remsi v19 c1_i32_31
  let c0_i32_36 : BitVec 32 := 0#32
  let v88 : BitVec 1 := Scalar.cmpi .ne v87 c0_i32_36
  let v89 : BitVec 1 := Scalar.andi v86 v88
  let v75 : BitVec 32 := Scalar.divsi v19 c1_i32_31
  let c1_i32_37 : BitVec 32 := 1#32
  let v90 : BitVec 32 := Scalar.subi v75 c1_i32_37
  let v91 : BitVec 32 := Scalar.select v89 v90 v75
  let c2_i32_38 : BitVec 32 := 2#32
  let v92 : BitVec 32 := Scalar.remsi v91 c2_i32_38
  let v93 : BitVec 32 := Scalar.muli c2_i32_39 v92
  let v94 : BitVec 32 := Scalar.subi v74 v93
  let c8_i32_40 : BitVec 32 := 8#32
  let v95 : BitVec 32 := Scalar.muli v94 c8_i32_40
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_41 : BitVec 32 := 2#32
  let v96 : BitVec 32 := Scalar.muli v37 c2_i32_41
  let v97 : BitVec 32 := Scalar.addi v95 v96
  let v38 : BitVec 32 := Scalar.addi v20 v37
  let c2_i32_12 : BitVec 32 := 2#32
  let v39 : BitVec 32 := Scalar.remsi v38 c2_i32_12
  let v98 : BitVec 32 := Scalar.addi v39 v37
  let c2_i32_42 : BitVec 32 := 2#32
  let v99 : BitVec 32 := Scalar.remsi v98 c2_i32_42
  let v100 : BitVec 32 := Scalar.addi v97 v99
  let c1_i32_155 : BitVec 32 := 1#32
  let v276 : BitVec 32 := Scalar.muli v100 c1_i32_155
  let v277 : BitVec 32 := Scalar.addi c0_i32_156 v276
  v277.toNat
def k0_off7 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let v292 : Index := Scalar.indexCast v285
  let c0_167 : Index := 0#32
  ![v292.toNat, 0]
def k0_off8 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let v308 : Index := Scalar.indexCast v301
  let c0_178 : Index := 0#32
  ![v308.toNat, 0]
def k0_off9 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c1_i32_181 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let v316 : BitVec 32 := Scalar.subi c1_i32_181 v156
  let c128_i32 : BitVec 32 := 128#32
  let v317 : BitVec 32 := Scalar.muli v316 c128_i32
  let v318 : BitVec 32 := Scalar.addi v285 v317
  let c0_i32_187 : BitVec 32 := 0#32
  ![v318.toNat, 0]
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_30 : BitVec 32 := 1#32
  let v74 : BitVec 32 := Scalar.addi v19 c1_i32_30
  let c2_i32_39 : BitVec 32 := 2#32
  let c0_i32_32 : BitVec 32 := 0#32
  let v76 : BitVec 1 := Scalar.cmpi .sgt v19 c0_i32_32
  let v77 : BitVec 32 := Scalar.extui v76
  let c0_i32_33 : BitVec 32 := 0#32
  let v78 : BitVec 1 := Scalar.cmpi .slt v19 c0_i32_33
  let v79 : BitVec 32 := Scalar.extui v78
  let v80 : BitVec 32 := Scalar.subi v77 v79
  let c1_i32_31 : BitVec 32 := 1#32
  let c0_i32_34 : BitVec 32 := 0#32
  let v81 : BitVec 1 := Scalar.cmpi .sgt c1_i32_31 c0_i32_34
  let v82 : BitVec 32 := Scalar.extui v81
  let c0_i32_35 : BitVec 32 := 0#32
  let v83 : BitVec 1 := Scalar.cmpi .slt c1_i32_31 c0_i32_35
  let v84 : BitVec 32 := Scalar.extui v83
  let v85 : BitVec 32 := Scalar.subi v82 v84
  let v86 : BitVec 1 := Scalar.cmpi .ne v80 v85
  let v87 : BitVec 32 := Scalar.remsi v19 c1_i32_31
  let c0_i32_36 : BitVec 32 := 0#32
  let v88 : BitVec 1 := Scalar.cmpi .ne v87 c0_i32_36
  let v89 : BitVec 1 := Scalar.andi v86 v88
  let v75 : BitVec 32 := Scalar.divsi v19 c1_i32_31
  let c1_i32_37 : BitVec 32 := 1#32
  let v90 : BitVec 32 := Scalar.subi v75 c1_i32_37
  let v91 : BitVec 32 := Scalar.select v89 v90 v75
  let c2_i32_38 : BitVec 32 := 2#32
  let v92 : BitVec 32 := Scalar.remsi v91 c2_i32_38
  let v93 : BitVec 32 := Scalar.muli c2_i32_39 v92
  let v94 : BitVec 32 := Scalar.subi v74 v93
  let c8_i32_40 : BitVec 32 := 8#32
  let v95 : BitVec 32 := Scalar.muli v94 c8_i32_40
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_41 : BitVec 32 := 2#32
  let v96 : BitVec 32 := Scalar.muli v37 c2_i32_41
  let v97 : BitVec 32 := Scalar.addi v95 v96
  let v38 : BitVec 32 := Scalar.addi v20 v37
  let c2_i32_12 : BitVec 32 := 2#32
  let v39 : BitVec 32 := Scalar.remsi v38 c2_i32_12
  let v98 : BitVec 32 := Scalar.addi v39 v37
  let c2_i32_42 : BitVec 32 := 2#32
  let v99 : BitVec 32 := Scalar.remsi v98 c2_i32_42
  let v100 : BitVec 32 := Scalar.addi v97 v99
  let c1_i32_184 : BitVec 32 := 1#32
  let v319 : BitVec 32 := Scalar.muli v100 c1_i32_184
  let v320 : BitVec 32 := Scalar.addi c0_i32_185 v319
  v320.toNat
def k0_off10 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c1_i32_188 : BitVec 32 := 1#32
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let v327 : BitVec 32 := Scalar.subi c1_i32_188 v173
  let c128_i32_189 : BitVec 32 := 128#32
  let v328 : BitVec 32 := Scalar.muli v327 c128_i32_189
  let v329 : BitVec 32 := Scalar.addi v301 v328
  let c0_i32_195 : BitVec 32 := 0#32
  ![v329.toNat, 0]
def k0_dev11 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_52 : BitVec 32 := 8#32
  let v122 : BitVec 32 := Scalar.muli v19 c8_i32_52
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_43 : BitVec 32 := 2#32
  let v101 : BitVec 32 := Scalar.addi v37 c2_i32_43
  let c4_i32 : BitVec 32 := 4#32
  let c0_i32_45 : BitVec 32 := 0#32
  let v103 : BitVec 1 := Scalar.cmpi .sgt v37 c0_i32_45
  let v104 : BitVec 32 := Scalar.extui v103
  let c0_i32_46 : BitVec 32 := 0#32
  let v105 : BitVec 1 := Scalar.cmpi .slt v37 c0_i32_46
  let v106 : BitVec 32 := Scalar.extui v105
  let v107 : BitVec 32 := Scalar.subi v104 v106
  let c2_i32_44 : BitVec 32 := 2#32
  let c0_i32_47 : BitVec 32 := 0#32
  let v108 : BitVec 1 := Scalar.cmpi .sgt c2_i32_44 c0_i32_47
  let v109 : BitVec 32 := Scalar.extui v108
  let c0_i32_48 : BitVec 32 := 0#32
  let v110 : BitVec 1 := Scalar.cmpi .slt c2_i32_44 c0_i32_48
  let v111 : BitVec 32 := Scalar.extui v110
  let v112 : BitVec 32 := Scalar.subi v109 v111
  let v113 : BitVec 1 := Scalar.cmpi .ne v107 v112
  let v114 : BitVec 32 := Scalar.remsi v37 c2_i32_44
  let c0_i32_49 : BitVec 32 := 0#32
  let v115 : BitVec 1 := Scalar.cmpi .ne v114 c0_i32_49
  let v116 : BitVec 1 := Scalar.andi v113 v115
  let v102 : BitVec 32 := Scalar.divsi v37 c2_i32_44
  let c1_i32_50 : BitVec 32 := 1#32
  let v117 : BitVec 32 := Scalar.subi v102 c1_i32_50
  let v118 : BitVec 32 := Scalar.select v116 v117 v102
  let c2_i32_51 : BitVec 32 := 2#32
  let v119 : BitVec 32 := Scalar.remsi v118 c2_i32_51
  let v120 : BitVec 32 := Scalar.muli c4_i32 v119
  let v121 : BitVec 32 := Scalar.subi v101 v120
  let c2_i32_53 : BitVec 32 := 2#32
  let v123 : BitVec 32 := Scalar.muli v121 c2_i32_53
  let v124 : BitVec 32 := Scalar.addi v122 v123
  let v38 : BitVec 32 := Scalar.addi v20 v37
  let c2_i32_12 : BitVec 32 := 2#32
  let v39 : BitVec 32 := Scalar.remsi v38 c2_i32_12
  let v125 : BitVec 32 := Scalar.addi v39 v121
  let c2_i32_54 : BitVec 32 := 2#32
  let v126 : BitVec 32 := Scalar.remsi v125 c2_i32_54
  let v127 : BitVec 32 := Scalar.addi v124 v126
  let c1_i32_192 : BitVec 32 := 1#32
  let v330 : BitVec 32 := Scalar.muli v127 c1_i32_192
  let v331 : BitVec 32 := Scalar.addi c0_i32_193 v330
  v331.toNat
def k0_off11 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let v346 : Index := Scalar.indexCast v339
  let c0_204 : Index := 0#32
  ![v346.toNat, 0]
def k0_off12 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let v362 : Index := Scalar.indexCast v355
  let c0_215 : Index := 0#32
  ![v362.toNat, 0]
def k0_off13 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c1_i32_218 : BitVec 32 := 1#32
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let v370 : BitVec 32 := Scalar.subi c1_i32_218 v173
  let c64_i32 : BitVec 32 := 64#32
  let v371 : BitVec 32 := Scalar.muli v370 c64_i32
  let v372 : BitVec 32 := Scalar.addi v339 v371
  let c0_i32_223 : BitVec 32 := 0#32
  ![v372.toNat, 0]
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_52 : BitVec 32 := 8#32
  let v122 : BitVec 32 := Scalar.muli v19 c8_i32_52
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_43 : BitVec 32 := 2#32
  let v101 : BitVec 32 := Scalar.addi v37 c2_i32_43
  let c4_i32 : BitVec 32 := 4#32
  let c0_i32_45 : BitVec 32 := 0#32
  let v103 : BitVec 1 := Scalar.cmpi .sgt v37 c0_i32_45
  let v104 : BitVec 32 := Scalar.extui v103
  let c0_i32_46 : BitVec 32 := 0#32
  let v105 : BitVec 1 := Scalar.cmpi .slt v37 c0_i32_46
  let v106 : BitVec 32 := Scalar.extui v105
  let v107 : BitVec 32 := Scalar.subi v104 v106
  let c2_i32_44 : BitVec 32 := 2#32
  let c0_i32_47 : BitVec 32 := 0#32
  let v108 : BitVec 1 := Scalar.cmpi .sgt c2_i32_44 c0_i32_47
  let v109 : BitVec 32 := Scalar.extui v108
  let c0_i32_48 : BitVec 32 := 0#32
  let v110 : BitVec 1 := Scalar.cmpi .slt c2_i32_44 c0_i32_48
  let v111 : BitVec 32 := Scalar.extui v110
  let v112 : BitVec 32 := Scalar.subi v109 v111
  let v113 : BitVec 1 := Scalar.cmpi .ne v107 v112
  let v114 : BitVec 32 := Scalar.remsi v37 c2_i32_44
  let c0_i32_49 : BitVec 32 := 0#32
  let v115 : BitVec 1 := Scalar.cmpi .ne v114 c0_i32_49
  let v116 : BitVec 1 := Scalar.andi v113 v115
  let v102 : BitVec 32 := Scalar.divsi v37 c2_i32_44
  let c1_i32_50 : BitVec 32 := 1#32
  let v117 : BitVec 32 := Scalar.subi v102 c1_i32_50
  let v118 : BitVec 32 := Scalar.select v116 v117 v102
  let c2_i32_51 : BitVec 32 := 2#32
  let v119 : BitVec 32 := Scalar.remsi v118 c2_i32_51
  let v120 : BitVec 32 := Scalar.muli c4_i32 v119
  let v121 : BitVec 32 := Scalar.subi v101 v120
  let c2_i32_53 : BitVec 32 := 2#32
  let v123 : BitVec 32 := Scalar.muli v121 c2_i32_53
  let v124 : BitVec 32 := Scalar.addi v122 v123
  let v38 : BitVec 32 := Scalar.addi v20 v37
  let c2_i32_12 : BitVec 32 := 2#32
  let v39 : BitVec 32 := Scalar.remsi v38 c2_i32_12
  let v125 : BitVec 32 := Scalar.addi v39 v121
  let c2_i32_54 : BitVec 32 := 2#32
  let v126 : BitVec 32 := Scalar.remsi v125 c2_i32_54
  let v127 : BitVec 32 := Scalar.addi v124 v126
  let c1_i32_220 : BitVec 32 := 1#32
  let v373 : BitVec 32 := Scalar.muli v127 c1_i32_220
  let v374 : BitVec 32 := Scalar.addi c0_i32_221 v373
  v374.toNat
def k0_off14 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c1_i32_224 : BitVec 32 := 1#32
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let v381 : BitVec 32 := Scalar.subi c1_i32_224 v190
  let c64_i32_225 : BitVec 32 := 64#32
  let v382 : BitVec 32 := Scalar.muli v381 c64_i32_225
  let v383 : BitVec 32 := Scalar.addi v355 v382
  let c0_i32_230 : BitVec 32 := 0#32
  ![v383.toNat, 0]
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v128 : BitVec 32 := Scalar.addi v19 c2_i32_55
  let c4_i32_64 : BitVec 32 := 4#32
  let c0_i32_57 : BitVec 32 := 0#32
  let v130 : BitVec 1 := Scalar.cmpi .sgt v19 c0_i32_57
  let v131 : BitVec 32 := Scalar.extui v130
  let c0_i32_58 : BitVec 32 := 0#32
  let v132 : BitVec 1 := Scalar.cmpi .slt v19 c0_i32_58
  let v133 : BitVec 32 := Scalar.extui v132
  let v134 : BitVec 32 := Scalar.subi v131 v133
  let c2_i32_56 : BitVec 32 := 2#32
  let c0_i32_59 : BitVec 32 := 0#32
  let v135 : BitVec 1 := Scalar.cmpi .sgt c2_i32_56 c0_i32_59
  let v136 : BitVec 32 := Scalar.extui v135
  let c0_i32_60 : BitVec 32 := 0#32
  let v137 : BitVec 1 := Scalar.cmpi .slt c2_i32_56 c0_i32_60
  let v138 : BitVec 32 := Scalar.extui v137
  let v139 : BitVec 32 := Scalar.subi v136 v138
  let v140 : BitVec 1 := Scalar.cmpi .ne v134 v139
  let v141 : BitVec 32 := Scalar.remsi v19 c2_i32_56
  let c0_i32_61 : BitVec 32 := 0#32
  let v142 : BitVec 1 := Scalar.cmpi .ne v141 c0_i32_61
  let v143 : BitVec 1 := Scalar.andi v140 v142
  let v129 : BitVec 32 := Scalar.divsi v19 c2_i32_56
  let c1_i32_62 : BitVec 32 := 1#32
  let v144 : BitVec 32 := Scalar.subi v129 c1_i32_62
  let v145 : BitVec 32 := Scalar.select v143 v144 v129
  let c2_i32_63 : BitVec 32 := 2#32
  let v146 : BitVec 32 := Scalar.remsi v145 c2_i32_63
  let v147 : BitVec 32 := Scalar.muli c4_i32_64 v146
  let v148 : BitVec 32 := Scalar.subi v128 v147
  let c8_i32_65 : BitVec 32 := 8#32
  let v149 : BitVec 32 := Scalar.muli v148 c8_i32_65
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_66 : BitVec 32 := 2#32
  let v150 : BitVec 32 := Scalar.muli v37 c2_i32_66
  let v151 : BitVec 32 := Scalar.addi v149 v150
  let v38 : BitVec 32 := Scalar.addi v20 v37
  let c2_i32_12 : BitVec 32 := 2#32
  let v39 : BitVec 32 := Scalar.remsi v38 c2_i32_12
  let v152 : BitVec 32 := Scalar.addi v39 v37
  let c2_i32_67 : BitVec 32 := 2#32
  let v153 : BitVec 32 := Scalar.remsi v152 c2_i32_67
  let v154 : BitVec 32 := Scalar.addi v151 v153
  let c1_i32_227 : BitVec 32 := 1#32
  let v384 : BitVec 32 := Scalar.muli v154 c1_i32_227
  let v385 : BitVec 32 := Scalar.addi c0_i32_228 v384
  v385.toNat
def k0_off15 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let v400 : Index := Scalar.indexCast v393
  let c0_239 : Index := 0#32
  ![v400.toNat, 0]
def k0_off16 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v416 : Index := Scalar.indexCast v409
  let c0_250 : Index := 0#32
  ![v416.toNat, 0]
def k0_off17 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c1_i32_253 : BitVec 32 := 1#32
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let v424 : BitVec 32 := Scalar.subi c1_i32_253 v190
  let c32_i32_254 : BitVec 32 := 32#32
  let v425 : BitVec 32 := Scalar.muli v424 c32_i32_254
  let v426 : BitVec 32 := Scalar.addi v393 v425
  let c0_i32_260 : BitVec 32 := 0#32
  ![v426.toNat, 0]
def k0_dev14 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v128 : BitVec 32 := Scalar.addi v19 c2_i32_55
  let c4_i32_64 : BitVec 32 := 4#32
  let c0_i32_57 : BitVec 32 := 0#32
  let v130 : BitVec 1 := Scalar.cmpi .sgt v19 c0_i32_57
  let v131 : BitVec 32 := Scalar.extui v130
  let c0_i32_58 : BitVec 32 := 0#32
  let v132 : BitVec 1 := Scalar.cmpi .slt v19 c0_i32_58
  let v133 : BitVec 32 := Scalar.extui v132
  let v134 : BitVec 32 := Scalar.subi v131 v133
  let c2_i32_56 : BitVec 32 := 2#32
  let c0_i32_59 : BitVec 32 := 0#32
  let v135 : BitVec 1 := Scalar.cmpi .sgt c2_i32_56 c0_i32_59
  let v136 : BitVec 32 := Scalar.extui v135
  let c0_i32_60 : BitVec 32 := 0#32
  let v137 : BitVec 1 := Scalar.cmpi .slt c2_i32_56 c0_i32_60
  let v138 : BitVec 32 := Scalar.extui v137
  let v139 : BitVec 32 := Scalar.subi v136 v138
  let v140 : BitVec 1 := Scalar.cmpi .ne v134 v139
  let v141 : BitVec 32 := Scalar.remsi v19 c2_i32_56
  let c0_i32_61 : BitVec 32 := 0#32
  let v142 : BitVec 1 := Scalar.cmpi .ne v141 c0_i32_61
  let v143 : BitVec 1 := Scalar.andi v140 v142
  let v129 : BitVec 32 := Scalar.divsi v19 c2_i32_56
  let c1_i32_62 : BitVec 32 := 1#32
  let v144 : BitVec 32 := Scalar.subi v129 c1_i32_62
  let v145 : BitVec 32 := Scalar.select v143 v144 v129
  let c2_i32_63 : BitVec 32 := 2#32
  let v146 : BitVec 32 := Scalar.remsi v145 c2_i32_63
  let v147 : BitVec 32 := Scalar.muli c4_i32_64 v146
  let v148 : BitVec 32 := Scalar.subi v128 v147
  let c8_i32_65 : BitVec 32 := 8#32
  let v149 : BitVec 32 := Scalar.muli v148 c8_i32_65
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_66 : BitVec 32 := 2#32
  let v150 : BitVec 32 := Scalar.muli v37 c2_i32_66
  let v151 : BitVec 32 := Scalar.addi v149 v150
  let v38 : BitVec 32 := Scalar.addi v20 v37
  let c2_i32_12 : BitVec 32 := 2#32
  let v39 : BitVec 32 := Scalar.remsi v38 c2_i32_12
  let v152 : BitVec 32 := Scalar.addi v39 v37
  let c2_i32_67 : BitVec 32 := 2#32
  let v153 : BitVec 32 := Scalar.remsi v152 c2_i32_67
  let v154 : BitVec 32 := Scalar.addi v151 v153
  let c1_i32_257 : BitVec 32 := 1#32
  let v427 : BitVec 32 := Scalar.muli v154 c1_i32_257
  let v428 : BitVec 32 := Scalar.addi c0_i32_258 v427
  v428.toNat
def k0_off18 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let c1_i32_261 : BitVec 32 := 1#32
  let v38 : BitVec 32 := Scalar.addi v20 v37
  let c2_i32_12 : BitVec 32 := 2#32
  let v39 : BitVec 32 := Scalar.remsi v38 c2_i32_12
  let v435 : BitVec 32 := Scalar.subi c1_i32_261 v39
  let c32_i32_262 : BitVec 32 := 32#32
  let v436 : BitVec 32 := Scalar.muli v435 c32_i32_262
  let v437 : BitVec 32 := Scalar.addi v409 v436
  let c0_i32_267 : BitVec 32 := 0#32
  ![v437.toNat, 0]
def k0_dev15 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_14 : BitVec 32 := 8#32
  let v41 : BitVec 32 := Scalar.muli v19 c8_i32_14
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_264 : BitVec 32 := 1#32
  let v438 : BitVec 32 := Scalar.muli v46 c1_i32_264
  let v439 : BitVec 32 := Scalar.addi c0_i32_265 v438
  v439.toNat
def k0_off19 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let v454 : Index := Scalar.indexCast v447
  let c0_276 : Index := 0#32
  ![v454.toNat, 0]
def k0_off20 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let v470 : Index := Scalar.indexCast v463
  let c0_287 : Index := 0#32
  ![v470.toNat, 0]
def k0_off21 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let c0_i32_293 : BitVec 32 := 0#32
  ![v447.toNat, 0]
def k0_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v128 : BitVec 32 := Scalar.addi v19 c2_i32_55
  let c4_i32_64 : BitVec 32 := 4#32
  let c0_i32_57 : BitVec 32 := 0#32
  let v130 : BitVec 1 := Scalar.cmpi .sgt v19 c0_i32_57
  let v131 : BitVec 32 := Scalar.extui v130
  let c0_i32_58 : BitVec 32 := 0#32
  let v132 : BitVec 1 := Scalar.cmpi .slt v19 c0_i32_58
  let v133 : BitVec 32 := Scalar.extui v132
  let v134 : BitVec 32 := Scalar.subi v131 v133
  let c2_i32_56 : BitVec 32 := 2#32
  let c0_i32_59 : BitVec 32 := 0#32
  let v135 : BitVec 1 := Scalar.cmpi .sgt c2_i32_56 c0_i32_59
  let v136 : BitVec 32 := Scalar.extui v135
  let c0_i32_60 : BitVec 32 := 0#32
  let v137 : BitVec 1 := Scalar.cmpi .slt c2_i32_56 c0_i32_60
  let v138 : BitVec 32 := Scalar.extui v137
  let v139 : BitVec 32 := Scalar.subi v136 v138
  let v140 : BitVec 1 := Scalar.cmpi .ne v134 v139
  let v141 : BitVec 32 := Scalar.remsi v19 c2_i32_56
  let c0_i32_61 : BitVec 32 := 0#32
  let v142 : BitVec 1 := Scalar.cmpi .ne v141 c0_i32_61
  let v143 : BitVec 1 := Scalar.andi v140 v142
  let v129 : BitVec 32 := Scalar.divsi v19 c2_i32_56
  let c1_i32_62 : BitVec 32 := 1#32
  let v144 : BitVec 32 := Scalar.subi v129 c1_i32_62
  let v145 : BitVec 32 := Scalar.select v143 v144 v129
  let c2_i32_63 : BitVec 32 := 2#32
  let v146 : BitVec 32 := Scalar.remsi v145 c2_i32_63
  let v147 : BitVec 32 := Scalar.muli c4_i32_64 v146
  let v148 : BitVec 32 := Scalar.subi v128 v147
  let c8_i32_65 : BitVec 32 := 8#32
  let v149 : BitVec 32 := Scalar.muli v148 c8_i32_65
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_66 : BitVec 32 := 2#32
  let v150 : BitVec 32 := Scalar.muli v37 c2_i32_66
  let v151 : BitVec 32 := Scalar.addi v149 v150
  let v38 : BitVec 32 := Scalar.addi v20 v37
  let c2_i32_12 : BitVec 32 := 2#32
  let v39 : BitVec 32 := Scalar.remsi v38 c2_i32_12
  let v152 : BitVec 32 := Scalar.addi v39 v37
  let c2_i32_67 : BitVec 32 := 2#32
  let v153 : BitVec 32 := Scalar.remsi v152 c2_i32_67
  let v154 : BitVec 32 := Scalar.addi v151 v153
  let c1_i32_291 : BitVec 32 := 1#32
  let v478 : BitVec 32 := Scalar.muli v154 c1_i32_291
  let v479 : BitVec 32 := Scalar.addi c0_i32_292 v478
  v479.toNat
def k0_off22 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let c0_i32_298 : BitVec 32 := 0#32
  ![v463.toNat, 0]
def k0_dev17 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_14 : BitVec 32 := 8#32
  let v41 : BitVec 32 := Scalar.muli v19 c8_i32_14
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_296 : BitVec 32 := 1#32
  let v486 : BitVec 32 := Scalar.muli v46 c1_i32_296
  let v487 : BitVec 32 := Scalar.addi c0_i32_297 v486
  v487.toNat
def k0_off23 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let c32_i32_306 : BitVec 32 := 32#32
  let v500 : BitVec 32 := Scalar.muli v190 c32_i32_306
  let v501 : BitVec 32 := Scalar.subi v447 v500
  let c0_i32_317 : BitVec 32 := 0#32
  ![v501.toNat, 0]
def k0_dev18 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_52 : BitVec 32 := 8#32
  let v122 : BitVec 32 := Scalar.muli v19 c8_i32_52
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_43 : BitVec 32 := 2#32
  let v101 : BitVec 32 := Scalar.addi v37 c2_i32_43
  let c4_i32 : BitVec 32 := 4#32
  let c0_i32_45 : BitVec 32 := 0#32
  let v103 : BitVec 1 := Scalar.cmpi .sgt v37 c0_i32_45
  let v104 : BitVec 32 := Scalar.extui v103
  let c0_i32_46 : BitVec 32 := 0#32
  let v105 : BitVec 1 := Scalar.cmpi .slt v37 c0_i32_46
  let v106 : BitVec 32 := Scalar.extui v105
  let v107 : BitVec 32 := Scalar.subi v104 v106
  let c2_i32_44 : BitVec 32 := 2#32
  let c0_i32_47 : BitVec 32 := 0#32
  let v108 : BitVec 1 := Scalar.cmpi .sgt c2_i32_44 c0_i32_47
  let v109 : BitVec 32 := Scalar.extui v108
  let c0_i32_48 : BitVec 32 := 0#32
  let v110 : BitVec 1 := Scalar.cmpi .slt c2_i32_44 c0_i32_48
  let v111 : BitVec 32 := Scalar.extui v110
  let v112 : BitVec 32 := Scalar.subi v109 v111
  let v113 : BitVec 1 := Scalar.cmpi .ne v107 v112
  let v114 : BitVec 32 := Scalar.remsi v37 c2_i32_44
  let c0_i32_49 : BitVec 32 := 0#32
  let v115 : BitVec 1 := Scalar.cmpi .ne v114 c0_i32_49
  let v116 : BitVec 1 := Scalar.andi v113 v115
  let v102 : BitVec 32 := Scalar.divsi v37 c2_i32_44
  let c1_i32_50 : BitVec 32 := 1#32
  let v117 : BitVec 32 := Scalar.subi v102 c1_i32_50
  let v118 : BitVec 32 := Scalar.select v116 v117 v102
  let c2_i32_51 : BitVec 32 := 2#32
  let v119 : BitVec 32 := Scalar.remsi v118 c2_i32_51
  let v120 : BitVec 32 := Scalar.muli c4_i32 v119
  let v121 : BitVec 32 := Scalar.subi v101 v120
  let c2_i32_53 : BitVec 32 := 2#32
  let v123 : BitVec 32 := Scalar.muli v121 c2_i32_53
  let v124 : BitVec 32 := Scalar.addi v122 v123
  let v38 : BitVec 32 := Scalar.addi v20 v37
  let c2_i32_12 : BitVec 32 := 2#32
  let v39 : BitVec 32 := Scalar.remsi v38 c2_i32_12
  let v125 : BitVec 32 := Scalar.addi v39 v121
  let c2_i32_54 : BitVec 32 := 2#32
  let v126 : BitVec 32 := Scalar.remsi v125 c2_i32_54
  let v127 : BitVec 32 := Scalar.addi v124 v126
  let c1_i32_315 : BitVec 32 := 1#32
  let v510 : BitVec 32 := Scalar.muli v127 c1_i32_315
  let v511 : BitVec 32 := Scalar.addi c0_i32_316 v510
  v511.toNat
def k0_off24 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let c32_i32_313 : BitVec 32 := 32#32
  let v508 : BitVec 32 := Scalar.muli v39 c32_i32_313
  let v509 : BitVec 32 := Scalar.subi v463 v508
  let c0_i32_322 : BitVec 32 := 0#32
  ![v509.toNat, 0]
def k0_dev19 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v128 : BitVec 32 := Scalar.addi v19 c2_i32_55
  let c4_i32_64 : BitVec 32 := 4#32
  let c0_i32_57 : BitVec 32 := 0#32
  let v130 : BitVec 1 := Scalar.cmpi .sgt v19 c0_i32_57
  let v131 : BitVec 32 := Scalar.extui v130
  let c0_i32_58 : BitVec 32 := 0#32
  let v132 : BitVec 1 := Scalar.cmpi .slt v19 c0_i32_58
  let v133 : BitVec 32 := Scalar.extui v132
  let v134 : BitVec 32 := Scalar.subi v131 v133
  let c2_i32_56 : BitVec 32 := 2#32
  let c0_i32_59 : BitVec 32 := 0#32
  let v135 : BitVec 1 := Scalar.cmpi .sgt c2_i32_56 c0_i32_59
  let v136 : BitVec 32 := Scalar.extui v135
  let c0_i32_60 : BitVec 32 := 0#32
  let v137 : BitVec 1 := Scalar.cmpi .slt c2_i32_56 c0_i32_60
  let v138 : BitVec 32 := Scalar.extui v137
  let v139 : BitVec 32 := Scalar.subi v136 v138
  let v140 : BitVec 1 := Scalar.cmpi .ne v134 v139
  let v141 : BitVec 32 := Scalar.remsi v19 c2_i32_56
  let c0_i32_61 : BitVec 32 := 0#32
  let v142 : BitVec 1 := Scalar.cmpi .ne v141 c0_i32_61
  let v143 : BitVec 1 := Scalar.andi v140 v142
  let v129 : BitVec 32 := Scalar.divsi v19 c2_i32_56
  let c1_i32_62 : BitVec 32 := 1#32
  let v144 : BitVec 32 := Scalar.subi v129 c1_i32_62
  let v145 : BitVec 32 := Scalar.select v143 v144 v129
  let c2_i32_63 : BitVec 32 := 2#32
  let v146 : BitVec 32 := Scalar.remsi v145 c2_i32_63
  let v147 : BitVec 32 := Scalar.muli c4_i32_64 v146
  let v148 : BitVec 32 := Scalar.subi v128 v147
  let c8_i32_65 : BitVec 32 := 8#32
  let v149 : BitVec 32 := Scalar.muli v148 c8_i32_65
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_66 : BitVec 32 := 2#32
  let v150 : BitVec 32 := Scalar.muli v37 c2_i32_66
  let v151 : BitVec 32 := Scalar.addi v149 v150
  let v38 : BitVec 32 := Scalar.addi v20 v37
  let c2_i32_12 : BitVec 32 := 2#32
  let v39 : BitVec 32 := Scalar.remsi v38 c2_i32_12
  let v152 : BitVec 32 := Scalar.addi v39 v37
  let c2_i32_67 : BitVec 32 := 2#32
  let v153 : BitVec 32 := Scalar.remsi v152 c2_i32_67
  let v154 : BitVec 32 := Scalar.addi v151 v153
  let c1_i32_320 : BitVec 32 := 1#32
  let v518 : BitVec 32 := Scalar.muli v154 c1_i32_320
  let v519 : BitVec 32 := Scalar.addi c0_i32_321 v518
  v519.toNat
def k0_off25 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let c32_i32_306 : BitVec 32 := 32#32
  let v500 : BitVec 32 := Scalar.muli v190 c32_i32_306
  let v501 : BitVec 32 := Scalar.subi v447 v500
  let c64_i32_330 : BitVec 32 := 64#32
  let v532 : BitVec 32 := Scalar.muli v173 c64_i32_330
  let v533 : BitVec 32 := Scalar.subi v501 v532
  let c0_i32_341 : BitVec 32 := 0#32
  ![v533.toNat, 0]
def k0_dev20 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_30 : BitVec 32 := 1#32
  let v74 : BitVec 32 := Scalar.addi v19 c1_i32_30
  let c2_i32_39 : BitVec 32 := 2#32
  let c0_i32_32 : BitVec 32 := 0#32
  let v76 : BitVec 1 := Scalar.cmpi .sgt v19 c0_i32_32
  let v77 : BitVec 32 := Scalar.extui v76
  let c0_i32_33 : BitVec 32 := 0#32
  let v78 : BitVec 1 := Scalar.cmpi .slt v19 c0_i32_33
  let v79 : BitVec 32 := Scalar.extui v78
  let v80 : BitVec 32 := Scalar.subi v77 v79
  let c1_i32_31 : BitVec 32 := 1#32
  let c0_i32_34 : BitVec 32 := 0#32
  let v81 : BitVec 1 := Scalar.cmpi .sgt c1_i32_31 c0_i32_34
  let v82 : BitVec 32 := Scalar.extui v81
  let c0_i32_35 : BitVec 32 := 0#32
  let v83 : BitVec 1 := Scalar.cmpi .slt c1_i32_31 c0_i32_35
  let v84 : BitVec 32 := Scalar.extui v83
  let v85 : BitVec 32 := Scalar.subi v82 v84
  let v86 : BitVec 1 := Scalar.cmpi .ne v80 v85
  let v87 : BitVec 32 := Scalar.remsi v19 c1_i32_31
  let c0_i32_36 : BitVec 32 := 0#32
  let v88 : BitVec 1 := Scalar.cmpi .ne v87 c0_i32_36
  let v89 : BitVec 1 := Scalar.andi v86 v88
  let v75 : BitVec 32 := Scalar.divsi v19 c1_i32_31
  let c1_i32_37 : BitVec 32 := 1#32
  let v90 : BitVec 32 := Scalar.subi v75 c1_i32_37
  let v91 : BitVec 32 := Scalar.select v89 v90 v75
  let c2_i32_38 : BitVec 32 := 2#32
  let v92 : BitVec 32 := Scalar.remsi v91 c2_i32_38
  let v93 : BitVec 32 := Scalar.muli c2_i32_39 v92
  let v94 : BitVec 32 := Scalar.subi v74 v93
  let c8_i32_40 : BitVec 32 := 8#32
  let v95 : BitVec 32 := Scalar.muli v94 c8_i32_40
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_41 : BitVec 32 := 2#32
  let v96 : BitVec 32 := Scalar.muli v37 c2_i32_41
  let v97 : BitVec 32 := Scalar.addi v95 v96
  let v38 : BitVec 32 := Scalar.addi v20 v37
  let c2_i32_12 : BitVec 32 := 2#32
  let v39 : BitVec 32 := Scalar.remsi v38 c2_i32_12
  let v98 : BitVec 32 := Scalar.addi v39 v37
  let c2_i32_42 : BitVec 32 := 2#32
  let v99 : BitVec 32 := Scalar.remsi v98 c2_i32_42
  let v100 : BitVec 32 := Scalar.addi v97 v99
  let c1_i32_339 : BitVec 32 := 1#32
  let v542 : BitVec 32 := Scalar.muli v100 c1_i32_339
  let v543 : BitVec 32 := Scalar.addi c0_i32_340 v542
  v543.toNat
def k0_off26 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let c32_i32_313 : BitVec 32 := 32#32
  let v508 : BitVec 32 := Scalar.muli v39 c32_i32_313
  let v509 : BitVec 32 := Scalar.subi v463 v508
  let c64_i32_337 : BitVec 32 := 64#32
  let v540 : BitVec 32 := Scalar.muli v190 c64_i32_337
  let v541 : BitVec 32 := Scalar.subi v509 v540
  let c0_i32_346 : BitVec 32 := 0#32
  ![v541.toNat, 0]
def k0_dev21 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_52 : BitVec 32 := 8#32
  let v122 : BitVec 32 := Scalar.muli v19 c8_i32_52
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_43 : BitVec 32 := 2#32
  let v101 : BitVec 32 := Scalar.addi v37 c2_i32_43
  let c4_i32 : BitVec 32 := 4#32
  let c0_i32_45 : BitVec 32 := 0#32
  let v103 : BitVec 1 := Scalar.cmpi .sgt v37 c0_i32_45
  let v104 : BitVec 32 := Scalar.extui v103
  let c0_i32_46 : BitVec 32 := 0#32
  let v105 : BitVec 1 := Scalar.cmpi .slt v37 c0_i32_46
  let v106 : BitVec 32 := Scalar.extui v105
  let v107 : BitVec 32 := Scalar.subi v104 v106
  let c2_i32_44 : BitVec 32 := 2#32
  let c0_i32_47 : BitVec 32 := 0#32
  let v108 : BitVec 1 := Scalar.cmpi .sgt c2_i32_44 c0_i32_47
  let v109 : BitVec 32 := Scalar.extui v108
  let c0_i32_48 : BitVec 32 := 0#32
  let v110 : BitVec 1 := Scalar.cmpi .slt c2_i32_44 c0_i32_48
  let v111 : BitVec 32 := Scalar.extui v110
  let v112 : BitVec 32 := Scalar.subi v109 v111
  let v113 : BitVec 1 := Scalar.cmpi .ne v107 v112
  let v114 : BitVec 32 := Scalar.remsi v37 c2_i32_44
  let c0_i32_49 : BitVec 32 := 0#32
  let v115 : BitVec 1 := Scalar.cmpi .ne v114 c0_i32_49
  let v116 : BitVec 1 := Scalar.andi v113 v115
  let v102 : BitVec 32 := Scalar.divsi v37 c2_i32_44
  let c1_i32_50 : BitVec 32 := 1#32
  let v117 : BitVec 32 := Scalar.subi v102 c1_i32_50
  let v118 : BitVec 32 := Scalar.select v116 v117 v102
  let c2_i32_51 : BitVec 32 := 2#32
  let v119 : BitVec 32 := Scalar.remsi v118 c2_i32_51
  let v120 : BitVec 32 := Scalar.muli c4_i32 v119
  let v121 : BitVec 32 := Scalar.subi v101 v120
  let c2_i32_53 : BitVec 32 := 2#32
  let v123 : BitVec 32 := Scalar.muli v121 c2_i32_53
  let v124 : BitVec 32 := Scalar.addi v122 v123
  let v38 : BitVec 32 := Scalar.addi v20 v37
  let c2_i32_12 : BitVec 32 := 2#32
  let v39 : BitVec 32 := Scalar.remsi v38 c2_i32_12
  let v125 : BitVec 32 := Scalar.addi v39 v121
  let c2_i32_54 : BitVec 32 := 2#32
  let v126 : BitVec 32 := Scalar.remsi v125 c2_i32_54
  let v127 : BitVec 32 := Scalar.addi v124 v126
  let c1_i32_344 : BitVec 32 := 1#32
  let v550 : BitVec 32 := Scalar.muli v127 c1_i32_344
  let v551 : BitVec 32 := Scalar.addi c0_i32_345 v550
  v551.toNat
def k0_off27 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let c32_i32_306 : BitVec 32 := 32#32
  let v500 : BitVec 32 := Scalar.muli v190 c32_i32_306
  let v501 : BitVec 32 := Scalar.subi v447 v500
  let c64_i32_330 : BitVec 32 := 64#32
  let v532 : BitVec 32 := Scalar.muli v173 c64_i32_330
  let v533 : BitVec 32 := Scalar.subi v501 v532
  let c128_i32_354 : BitVec 32 := 128#32
  let v564 : BitVec 32 := Scalar.muli v156 c128_i32_354
  let v565 : BitVec 32 := Scalar.subi v533 v564
  let c0_i32_365 : BitVec 32 := 0#32
  ![v565.toNat, 0]
def k0_dev22 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v68 : BitVec 32 := Scalar.muli v19 c8_i32_27
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_17 : BitVec 32 := 1#32
  let v47 : BitVec 32 := Scalar.addi v37 c1_i32_17
  let c2_i32_26 : BitVec 32 := 2#32
  let c0_i32_19 : BitVec 32 := 0#32
  let v49 : BitVec 1 := Scalar.cmpi .sgt v37 c0_i32_19
  let v50 : BitVec 32 := Scalar.extui v49
  let c0_i32_20 : BitVec 32 := 0#32
  let v51 : BitVec 1 := Scalar.cmpi .slt v37 c0_i32_20
  let v52 : BitVec 32 := Scalar.extui v51
  let v53 : BitVec 32 := Scalar.subi v50 v52
  let c1_i32_18 : BitVec 32 := 1#32
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi v37 c1_i32_18
  let c0_i32_23 : BitVec 32 := 0#32
  let v61 : BitVec 1 := Scalar.cmpi .ne v60 c0_i32_23
  let v62 : BitVec 1 := Scalar.andi v59 v61
  let v48 : BitVec 32 := Scalar.divsi v37 c1_i32_18
  let c1_i32_24 : BitVec 32 := 1#32
  let v63 : BitVec 32 := Scalar.subi v48 c1_i32_24
  let v64 : BitVec 32 := Scalar.select v62 v63 v48
  let c2_i32_25 : BitVec 32 := 2#32
  let v65 : BitVec 32 := Scalar.remsi v64 c2_i32_25
  let v66 : BitVec 32 := Scalar.muli c2_i32_26 v65
  let v67 : BitVec 32 := Scalar.subi v47 v66
  let c2_i32_28 : BitVec 32 := 2#32
  let v69 : BitVec 32 := Scalar.muli v67 c2_i32_28
  let v70 : BitVec 32 := Scalar.addi v68 v69
  let v38 : BitVec 32 := Scalar.addi v20 v37
  let c2_i32_12 : BitVec 32 := 2#32
  let v39 : BitVec 32 := Scalar.remsi v38 c2_i32_12
  let v71 : BitVec 32 := Scalar.addi v39 v67
  let c2_i32_29 : BitVec 32 := 2#32
  let v72 : BitVec 32 := Scalar.remsi v71 c2_i32_29
  let v73 : BitVec 32 := Scalar.addi v70 v72
  let c1_i32_363 : BitVec 32 := 1#32
  let v574 : BitVec 32 := Scalar.muli v73 c1_i32_363
  let v575 : BitVec 32 := Scalar.addi c0_i32_364 v574
  v575.toNat
def k0_off28 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let c32_i32_313 : BitVec 32 := 32#32
  let v508 : BitVec 32 := Scalar.muli v39 c32_i32_313
  let v509 : BitVec 32 := Scalar.subi v463 v508
  let c64_i32_337 : BitVec 32 := 64#32
  let v540 : BitVec 32 := Scalar.muli v190 c64_i32_337
  let v541 : BitVec 32 := Scalar.subi v509 v540
  let c128_i32_361 : BitVec 32 := 128#32
  let v572 : BitVec 32 := Scalar.muli v173 c128_i32_361
  let v573 : BitVec 32 := Scalar.subi v541 v572
  let c0_i32_370 : BitVec 32 := 0#32
  ![v573.toNat, 0]
def k0_dev23 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_30 : BitVec 32 := 1#32
  let v74 : BitVec 32 := Scalar.addi v19 c1_i32_30
  let c2_i32_39 : BitVec 32 := 2#32
  let c0_i32_32 : BitVec 32 := 0#32
  let v76 : BitVec 1 := Scalar.cmpi .sgt v19 c0_i32_32
  let v77 : BitVec 32 := Scalar.extui v76
  let c0_i32_33 : BitVec 32 := 0#32
  let v78 : BitVec 1 := Scalar.cmpi .slt v19 c0_i32_33
  let v79 : BitVec 32 := Scalar.extui v78
  let v80 : BitVec 32 := Scalar.subi v77 v79
  let c1_i32_31 : BitVec 32 := 1#32
  let c0_i32_34 : BitVec 32 := 0#32
  let v81 : BitVec 1 := Scalar.cmpi .sgt c1_i32_31 c0_i32_34
  let v82 : BitVec 32 := Scalar.extui v81
  let c0_i32_35 : BitVec 32 := 0#32
  let v83 : BitVec 1 := Scalar.cmpi .slt c1_i32_31 c0_i32_35
  let v84 : BitVec 32 := Scalar.extui v83
  let v85 : BitVec 32 := Scalar.subi v82 v84
  let v86 : BitVec 1 := Scalar.cmpi .ne v80 v85
  let v87 : BitVec 32 := Scalar.remsi v19 c1_i32_31
  let c0_i32_36 : BitVec 32 := 0#32
  let v88 : BitVec 1 := Scalar.cmpi .ne v87 c0_i32_36
  let v89 : BitVec 1 := Scalar.andi v86 v88
  let v75 : BitVec 32 := Scalar.divsi v19 c1_i32_31
  let c1_i32_37 : BitVec 32 := 1#32
  let v90 : BitVec 32 := Scalar.subi v75 c1_i32_37
  let v91 : BitVec 32 := Scalar.select v89 v90 v75
  let c2_i32_38 : BitVec 32 := 2#32
  let v92 : BitVec 32 := Scalar.remsi v91 c2_i32_38
  let v93 : BitVec 32 := Scalar.muli c2_i32_39 v92
  let v94 : BitVec 32 := Scalar.subi v74 v93
  let c8_i32_40 : BitVec 32 := 8#32
  let v95 : BitVec 32 := Scalar.muli v94 c8_i32_40
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_41 : BitVec 32 := 2#32
  let v96 : BitVec 32 := Scalar.muli v37 c2_i32_41
  let v97 : BitVec 32 := Scalar.addi v95 v96
  let v38 : BitVec 32 := Scalar.addi v20 v37
  let c2_i32_12 : BitVec 32 := 2#32
  let v39 : BitVec 32 := Scalar.remsi v38 c2_i32_12
  let v98 : BitVec 32 := Scalar.addi v39 v37
  let c2_i32_42 : BitVec 32 := 2#32
  let v99 : BitVec 32 := Scalar.remsi v98 c2_i32_42
  let v100 : BitVec 32 := Scalar.addi v97 v99
  let c1_i32_368 : BitVec 32 := 1#32
  let v582 : BitVec 32 := Scalar.muli v100 c1_i32_368
  let v583 : BitVec 32 := Scalar.addi c0_i32_369 v582
  v583.toNat
def k0_off29 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c512_i32_119 : BitVec 32 := 512#32
  let v230 : BitVec 32 := Scalar.muli v39 c512_i32_119
  let v231 : BitVec 32 := Scalar.addi c0_i32_120 v230
  let c2_i32_68 : BitVec 32 := 2#32
  let v155 : BitVec 32 := Scalar.remsi v37 c2_i32_68
  let c256_i32_159 : BitVec 32 := 256#32
  let v284 : BitVec 32 := Scalar.muli v155 c256_i32_159
  let v285 : BitVec 32 := Scalar.addi v231 v284
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c128_i32_196 : BitVec 32 := 128#32
  let v338 : BitVec 32 := Scalar.muli v156 c128_i32_196
  let v339 : BitVec 32 := Scalar.addi v285 v338
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c64_i32_231 : BitVec 32 := 64#32
  let v392 : BitVec 32 := Scalar.muli v173 c64_i32_231
  let v393 : BitVec 32 := Scalar.addi v339 v392
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c32_i32_268 : BitVec 32 := 32#32
  let v446 : BitVec 32 := Scalar.muli v190 c32_i32_268
  let v447 : BitVec 32 := Scalar.addi v393 v446
  let c32_i32_306 : BitVec 32 := 32#32
  let v500 : BitVec 32 := Scalar.muli v190 c32_i32_306
  let v501 : BitVec 32 := Scalar.subi v447 v500
  let c64_i32_330 : BitVec 32 := 64#32
  let v532 : BitVec 32 := Scalar.muli v173 c64_i32_330
  let v533 : BitVec 32 := Scalar.subi v501 v532
  let c128_i32_354 : BitVec 32 := 128#32
  let v564 : BitVec 32 := Scalar.muli v156 c128_i32_354
  let v565 : BitVec 32 := Scalar.subi v533 v564
  let c256_i32_378 : BitVec 32 := 256#32
  let v596 : BitVec 32 := Scalar.muli v155 c256_i32_378
  let v597 : BitVec 32 := Scalar.subi v565 v596
  let c0_i32_389 : BitVec 32 := 0#32
  ![v597.toNat, 0]
def k0_dev24 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_14 : BitVec 32 := 8#32
  let v41 : BitVec 32 := Scalar.muli v19 c8_i32_14
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_387 : BitVec 32 := 1#32
  let v606 : BitVec 32 := Scalar.muli v46 c1_i32_387
  let v607 : BitVec 32 := Scalar.addi c0_i32_388 v606
  v607.toNat
def k0_off30 (d0 : Dev nD) : Fin 2 → Nat :=
  let c1024_i32_133 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_68 : BitVec 32 := 2#32
  let v155 : BitVec 32 := Scalar.remsi v37 c2_i32_68
  let c512_i32_132 : BitVec 32 := 512#32
  let v246 : BitVec 32 := Scalar.muli v155 c512_i32_132
  let v247 : BitVec 32 := Scalar.addi c1024_i32_133 v246
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_69 : BitVec 32 := 2#32
  let v156 : BitVec 32 := Scalar.remsi v19 c2_i32_69
  let c256_i32_170 : BitVec 32 := 256#32
  let v300 : BitVec 32 := Scalar.muli v156 c256_i32_170
  let v301 : BitVec 32 := Scalar.addi v247 v300
  let c0_i32_71 : BitVec 32 := 0#32
  let v158 : BitVec 1 := Scalar.cmpi .sgt v37 c0_i32_71
  let v159 : BitVec 32 := Scalar.extui v158
  let c0_i32_72 : BitVec 32 := 0#32
  let v160 : BitVec 1 := Scalar.cmpi .slt v37 c0_i32_72
  let v161 : BitVec 32 := Scalar.extui v160
  let v162 : BitVec 32 := Scalar.subi v159 v161
  let c2_i32_70 : BitVec 32 := 2#32
  let c0_i32_73 : BitVec 32 := 0#32
  let v163 : BitVec 1 := Scalar.cmpi .sgt c2_i32_70 c0_i32_73
  let v164 : BitVec 32 := Scalar.extui v163
  let c0_i32_74 : BitVec 32 := 0#32
  let v165 : BitVec 1 := Scalar.cmpi .slt c2_i32_70 c0_i32_74
  let v166 : BitVec 32 := Scalar.extui v165
  let v167 : BitVec 32 := Scalar.subi v164 v166
  let v168 : BitVec 1 := Scalar.cmpi .ne v162 v167
  let v169 : BitVec 32 := Scalar.remsi v37 c2_i32_70
  let c0_i32_75 : BitVec 32 := 0#32
  let v170 : BitVec 1 := Scalar.cmpi .ne v169 c0_i32_75
  let v171 : BitVec 1 := Scalar.andi v168 v170
  let v157 : BitVec 32 := Scalar.divsi v37 c2_i32_70
  let c1_i32_76 : BitVec 32 := 1#32
  let v172 : BitVec 32 := Scalar.subi v157 c1_i32_76
  let v173 : BitVec 32 := Scalar.select v171 v172 v157
  let c128_i32_207 : BitVec 32 := 128#32
  let v354 : BitVec 32 := Scalar.muli v173 c128_i32_207
  let v355 : BitVec 32 := Scalar.addi v301 v354
  let c0_i32_78 : BitVec 32 := 0#32
  let v175 : BitVec 1 := Scalar.cmpi .sgt v19 c0_i32_78
  let v176 : BitVec 32 := Scalar.extui v175
  let c0_i32_79 : BitVec 32 := 0#32
  let v177 : BitVec 1 := Scalar.cmpi .slt v19 c0_i32_79
  let v178 : BitVec 32 := Scalar.extui v177
  let v179 : BitVec 32 := Scalar.subi v176 v178
  let c2_i32_77 : BitVec 32 := 2#32
  let c0_i32_80 : BitVec 32 := 0#32
  let v180 : BitVec 1 := Scalar.cmpi .sgt c2_i32_77 c0_i32_80
  let v181 : BitVec 32 := Scalar.extui v180
  let c0_i32_81 : BitVec 32 := 0#32
  let v182 : BitVec 1 := Scalar.cmpi .slt c2_i32_77 c0_i32_81
  let v183 : BitVec 32 := Scalar.extui v182
  let v184 : BitVec 32 := Scalar.subi v181 v183
  let v185 : BitVec 1 := Scalar.cmpi .ne v179 v184
  let v186 : BitVec 32 := Scalar.remsi v19 c2_i32_77
  let c0_i32_82 : BitVec 32 := 0#32
  let v187 : BitVec 1 := Scalar.cmpi .ne v186 c0_i32_82
  let v188 : BitVec 1 := Scalar.andi v185 v187
  let v174 : BitVec 32 := Scalar.divsi v19 c2_i32_77
  let c1_i32_83 : BitVec 32 := 1#32
  let v189 : BitVec 32 := Scalar.subi v174 c1_i32_83
  let v190 : BitVec 32 := Scalar.select v188 v189 v174
  let c64_i32_242 : BitVec 32 := 64#32
  let v408 : BitVec 32 := Scalar.muli v190 c64_i32_242
  let v409 : BitVec 32 := Scalar.addi v355 v408
  let v38 : BitVec 32 := Scalar.addi v20 v37
  let c2_i32_12 : BitVec 32 := 2#32
  let v39 : BitVec 32 := Scalar.remsi v38 c2_i32_12
  let c32_i32_279 : BitVec 32 := 32#32
  let v462 : BitVec 32 := Scalar.muli v39 c32_i32_279
  let v463 : BitVec 32 := Scalar.addi v409 v462
  let c32_i32_313 : BitVec 32 := 32#32
  let v508 : BitVec 32 := Scalar.muli v39 c32_i32_313
  let v509 : BitVec 32 := Scalar.subi v463 v508
  let c64_i32_337 : BitVec 32 := 64#32
  let v540 : BitVec 32 := Scalar.muli v190 c64_i32_337
  let v541 : BitVec 32 := Scalar.subi v509 v540
  let c128_i32_361 : BitVec 32 := 128#32
  let v572 : BitVec 32 := Scalar.muli v173 c128_i32_361
  let v573 : BitVec 32 := Scalar.subi v541 v572
  let c256_i32_385 : BitVec 32 := 256#32
  let v604 : BitVec 32 := Scalar.muli v156 c256_i32_385
  let v605 : BitVec 32 := Scalar.subi v573 v604
  let c0_i32_394 : BitVec 32 := 0#32
  ![v605.toNat, 0]
def k0_dev25 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v68 : BitVec 32 := Scalar.muli v19 c8_i32_27
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_17 : BitVec 32 := 1#32
  let v47 : BitVec 32 := Scalar.addi v37 c1_i32_17
  let c2_i32_26 : BitVec 32 := 2#32
  let c0_i32_19 : BitVec 32 := 0#32
  let v49 : BitVec 1 := Scalar.cmpi .sgt v37 c0_i32_19
  let v50 : BitVec 32 := Scalar.extui v49
  let c0_i32_20 : BitVec 32 := 0#32
  let v51 : BitVec 1 := Scalar.cmpi .slt v37 c0_i32_20
  let v52 : BitVec 32 := Scalar.extui v51
  let v53 : BitVec 32 := Scalar.subi v50 v52
  let c1_i32_18 : BitVec 32 := 1#32
  let c0_i32_21 : BitVec 32 := 0#32
  let v54 : BitVec 1 := Scalar.cmpi .sgt c1_i32_18 c0_i32_21
  let v55 : BitVec 32 := Scalar.extui v54
  let c0_i32_22 : BitVec 32 := 0#32
  let v56 : BitVec 1 := Scalar.cmpi .slt c1_i32_18 c0_i32_22
  let v57 : BitVec 32 := Scalar.extui v56
  let v58 : BitVec 32 := Scalar.subi v55 v57
  let v59 : BitVec 1 := Scalar.cmpi .ne v53 v58
  let v60 : BitVec 32 := Scalar.remsi v37 c1_i32_18
  let c0_i32_23 : BitVec 32 := 0#32
  let v61 : BitVec 1 := Scalar.cmpi .ne v60 c0_i32_23
  let v62 : BitVec 1 := Scalar.andi v59 v61
  let v48 : BitVec 32 := Scalar.divsi v37 c1_i32_18
  let c1_i32_24 : BitVec 32 := 1#32
  let v63 : BitVec 32 := Scalar.subi v48 c1_i32_24
  let v64 : BitVec 32 := Scalar.select v62 v63 v48
  let c2_i32_25 : BitVec 32 := 2#32
  let v65 : BitVec 32 := Scalar.remsi v64 c2_i32_25
  let v66 : BitVec 32 := Scalar.muli c2_i32_26 v65
  let v67 : BitVec 32 := Scalar.subi v47 v66
  let c2_i32_28 : BitVec 32 := 2#32
  let v69 : BitVec 32 := Scalar.muli v67 c2_i32_28
  let v70 : BitVec 32 := Scalar.addi v68 v69
  let v38 : BitVec 32 := Scalar.addi v20 v37
  let c2_i32_12 : BitVec 32 := 2#32
  let v39 : BitVec 32 := Scalar.remsi v38 c2_i32_12
  let v71 : BitVec 32 := Scalar.addi v39 v67
  let c2_i32_29 : BitVec 32 := 2#32
  let v72 : BitVec 32 := Scalar.remsi v71 c2_i32_29
  let v73 : BitVec 32 := Scalar.addi v70 v72
  let c1_i32_392 : BitVec 32 := 1#32
  let v614 : BitVec 32 := Scalar.muli v73 c1_i32_392
  let v615 : BitVec 32 := Scalar.addi c0_i32_393 v614
  v615.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x512 : Shape := ⟨2, ![65536, 512]⟩
abbrev S32x2048x512 : Shape := ⟨3, ![32, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S32x2048x512, .f32⟩
  | .hbm, ⟨2, _⟩ => ⟨S_, .f32⟩
  | .hbm, ⟨3, _⟩ => ⟨S2048x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cube.lean ====
/-
# The hypercube of the thirty-two devices and the row ranges of the exchange

A device's number names a corner of a five-dimensional cube. The kernel works on two halves of the rows (group 0:
rows 0 to 1023, group 1: rows 1024 to 2047); in the step `s` of a group it exchanges with the corner across one
dimension, keeps one half of its current row range and hands the other half over. This module states the cube, the
row range a device owns before each step, and how these ranges split; the offsets and the partners the program
computes are these.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.CubeProof

open Cert.KernelIdeal Cert.KernelIdeal.Gen
open Idealize.ShloMosaic Idealize.SL.Sem

/-- The coordinate of device `c` in the dimension `d` of the cube. -/
@[reducible] def bit (d : Fin 5) (c : Dev nD) : ℕ :=
  (![c.val + c.val / 2, c.val / 2, c.val / 8, c.val / 4, c.val / 16] : Fin 5 → ℕ) d % 2

/-- The device across dimension `d`: the one whose coordinates agree with those of `c` but in `d`. -/
@[reducible] def peer (d : Fin 5) (c : Dev nD) : Dev nD :=
  ⟨(c.val ^^^ (![1, 3, 8, 4, 16] : Fin 5 → ℕ) d) % 32, Nat.mod_lt _ (by decide)⟩

/-- Crossing a dimension twice comes back. -/
theorem peer_peer : ∀ (d : Fin 5) (c : Dev nD), peer d (peer d c) = c := by decide +kernel

/-- The partners across two different dimensions are different devices. -/
theorem peer_inj : ∀ (d d' : Fin 5) (c : Dev nD), peer d c = peer d' c → d = d' := by decide +kernel

/-- No device is its own partner. -/
theorem peer_ne : ∀ (d : Fin 5) (c : Dev nD), peer d c ≠ c := by decide +kernel

/-- Crossing dimension `d`, as a permutation of the devices. -/
def peerEquiv (d : Fin 5) : Dev nD ≃ Dev nD := ⟨peer d, peer d, peer_peer d, peer_peer d⟩

/-- The dimension group `k` crosses in its step `s`. -/
@[reducible] def dim (k : Fin 2) (s : Fin 5) : Fin 5 := ⟨(s.val + k.val) % 5, Nat.mod_lt _ (by decide)⟩

/-- The step in which group `k` crosses dimension `d`. -/
@[reducible] def stepOf (k : Fin 2) (d : Fin 5) : Fin 5 := ⟨(d.val + 5 - k.val) % 5, Nat.mod_lt _ (by decide)⟩

theorem dim_stepOf : ∀ (k : Fin 2) (d : Fin 5), dim k (stepOf k d) = d := by decide
theorem stepOf_dim : ∀ (k : Fin 2) (s : Fin 5), stepOf k (dim k s) = s := by decide

/-- The partner of device `c` in the step `s` of group `k`. -/
@[reducible] def mate (k : Fin 2) (s : Fin 5) (c : Dev nD) : Dev nD := peer (dim k s) c

theorem mate_mate (k : Fin 2) (s : Fin 5) (c : Dev nD) : mate k s (mate k s c) = c := peer_peer _ c

/-- How many rows a device's range has after `t` steps. -/
@[reducible] def rows (t : ℕ) : ℕ := 1024 / 2 ^ t

/-- The first row of the range of group `k` that device `c` owns after `t` steps. -/
@[reducible] def base (k : Fin 2) : ℕ → Dev nD → ℕ
  | 0, _ => 1024 * k.val
  | t + 1, c => base k t c + (if h : t < 5 then bit (dim k ⟨t, h⟩) c else 0) * rows (t + 1)

/-- Where in the landing buffer the step `s` of group `k` lands: the groups' parts one after the other, the steps'
    slots in order, each the size of its step's half. -/
@[reducible] def slot (k : Fin 2) (s : Fin 5) : ℕ := (![0, 512, 768, 896, 960] : Fin 5 → ℕ) s + 992 * k.val

/-- A range splits into the halves that its owner and its owner's partner keep, and the partner starts from the
    same range. -/
theorem base_halves : ∀ (k : Fin 2) (s : Fin 5) (c : Dev nD),
    base k s.val (mate k s c) = base k s.val c
    ∧ (base k (s.val + 1) c = base k s.val c ∧ base k (s.val + 1) (mate k s c) = base k s.val c + rows (s.val + 1)
      ∨ base k (s.val + 1) c = base k s.val c + rows (s.val + 1) ∧ base k (s.val + 1) (mate k s c) = base k s.val c) := by
  decide +kernel

theorem rows_double : ∀ s : Fin 5, rows s.val = 2 * rows (s.val + 1) := by decide

/-- Every range lies in the buffer's 2048 rows. -/
theorem base_le : ∀ (k : Fin 2) (t : Fin 6) (c : Dev nD), base k t.val c + rows t.val ≤ 2048 := by decide +kernel

theorem slot_le : ∀ (k : Fin 2) (s : Fin 5), slot k s + rows (s.val + 1) ≤ 1984 := by decide

/-- The first row of the range and the column 0: where a transfer or an access of the range starts. -/
@[reducible] def at0 (r : ℕ) : Fin 2 → ℕ := ![r, 0]

/-! ## The program's partners and offsets -/

/-- The devices the program signals at entry, by dimension. -/
def sigDev (d : Fin 5) : Dev nD → ℕ := (![k0_dev1, k0_dev2, k0_dev3, k0_dev4, k0_dev5] : Fin 5 → Dev nD → ℕ) d
/-- The devices the program sends to while reducing, by group and step. -/
def rsDev (k : Fin 2) (s : Fin 5) : Dev nD → ℕ :=
  (![![k0_dev6, k0_dev8, k0_dev10, k0_dev12, k0_dev14], ![k0_dev7, k0_dev9, k0_dev11, k0_dev13, k0_dev15]]
    : Fin 2 → Fin 5 → Dev nD → ℕ) k s
/-- The devices the program sends to while gathering, by group and step. -/
def agDev (k : Fin 2) (s : Fin 5) : Dev nD → ℕ :=
  (![![k0_dev24, k0_dev22, k0_dev20, k0_dev18, k0_dev16], ![k0_dev25, k0_dev23, k0_dev21, k0_dev19, k0_dev17]]
    : Fin 2 → Fin 5 → Dev nD → ℕ) k s
/-- Where the half handed over in a step starts. -/
def outOff (k : Fin 2) (s : Fin 5) : Dev nD → Fin 2 → ℕ :=
  (![![k0_off1, k0_off5, k0_off9, k0_off13, k0_off17], ![k0_off2, k0_off6, k0_off10, k0_off14, k0_off18]]
    : Fin 2 → Fin 5 → Dev nD → Fin 2 → ℕ) k s
/-- Where the half kept in a step starts. -/
def keepOff (k : Fin 2) (s : Fin 5) : Dev nD → Fin 2 → ℕ :=
  (![![k0_off3, k0_off7, k0_off11, k0_off15, k0_off19], ![k0_off4, k0_off8, k0_off12, k0_off16, k0_off20]]
    : Fin 2 → Fin 5 → Dev nD → Fin 2 → ℕ) k s
/-- Where the finished half passed on in a step of the gathering starts. -/
def doneOff (k : Fin 2) (s : Fin 5) : Dev nD → Fin 2 → ℕ :=
  (![![k0_off29, k0_off27, k0_off25, k0_off23, k0_off21], ![k0_off30, k0_off28, k0_off26, k0_off24, k0_off22]]
    : Fin 2 → Fin 5 → Dev nD → Fin 2 → ℕ) k s

theorem sigDev_eq : ∀ (d : Fin 5) (c : Dev nD), sigDev d c = (peer d c).val := by decide +kernel
theorem rsDev_eq : ∀ (k : Fin 2) (s : Fin 5) (c : Dev nD), rsDev k s c = (mate k s c).val := by decide +kernel
theorem agDev_eq : ∀ (k : Fin 2) (s : Fin 5) (c : Dev nD), agDev k s c = (mate k s c).val := by decide +kernel
theorem outOff_eq : ∀ (k : Fin 2) (s : Fin 5) (c : Dev nD), outOff k s c = at0 (base k (s.val + 1) (mate k s c)) := by
  decide +kernel
theorem keepOff_eq : ∀ (k : Fin 2) (s : Fin 5) (c : Dev nD), keepOff k s c = at0 (base k (s.val + 1) c) := by
  decide +kernel
theorem doneOff_eq : ∀ (k : Fin 2) (s : Fin 5) (c : Dev nD), doneOff k s c = at0 (base k (s.val + 1) c) := by
  decide +kernel

/-! ## Row ranges as sets of elements -/

/-- The elements of `n` rows from row `r` of a buffer of `H` rows. -/
def band (H r n : ℕ) : Finset (⟨2, ![H, 512]⟩ : Shape).Idx :=
  Finset.univ.filter fun i => r ≤ (i 0).val ∧ (i 0).val < r + n

theorem mem_band {H r n : ℕ} {i : (⟨2, ![H, 512]⟩ : Shape).Idx} : i ∈ band H r n ↔ r ≤ (i 0).val ∧ (i 0).val < r + n := by
  simp [band]

/-- A band's rectangle has the band's elements. -/
theorem rect_band {H r n : ℕ} (inb : ∀ a, at0 r a + (⟨2, ![n, 512]⟩ : Shape).size a ≤ (⟨2, ![H, 512]⟩ : Shape).size a) :
    (Rect.unit (s := ⟨2, ![H, 512]⟩) (at0 r) (⟨2, ![n, 512]⟩ : Shape).size inb).set = band H r n := by
  ext i
  rw [Rect.mem_set_unit, mem_band]
  constructor
  · intro h; exact h 0
  · intro h a
    match a with
    | 0 => exact h
    | 1 => exact ⟨Nat.zero_le _, by have := (i 1).isLt; simpa using this⟩

theorem band_disjoint {H r n r' n' : ℕ} (h : r + n ≤ r' ∨ r' + n' ≤ r) : Disjoint (band H r n) (band H r' n') := by
  rw [Finset.disjoint_left]; intro i hi hi'
  rw [mem_band] at hi hi'; omega

/-- The elements of the range of group `k` that device `c` owns after `t` steps. -/
def region (k : Fin 2) (t : ℕ) (c : Dev nD) : Finset S2048x512.Idx := band 2048 (base k t c) (rows t)

theorem region_mate (k : Fin 2) (s : Fin 5) (c : Dev nD) : region k s.val (mate k s c) = region k s.val c := by
  unfold region; rw [(base_halves k s c).1]

/-- The two halves of a range are apart, -/
theorem region_disjoint (k : Fin 2) (s : Fin 5) (c : Dev nD) :
    Disjoint (region k (s.val + 1) c) (region k (s.val + 1) (mate k s c)) := by
  refine band_disjoint ?_
  rcases (base_halves k s c).2 with h | h <;> omega

/-- and make up the range. -/
theorem region_split (k : Fin 2) (s : Fin 5) (c : Dev nD) :
    region k s.val c = region k (s.val + 1) c ∪ region k (s.val + 1) (mate k s c) := by
  ext i
  rw [Finset.mem_union]; unfold region; rw [mem_band, mem_band, mem_band]
  have := rows_double s
  rcases (base_halves k s c).2 with h | h <;> omega

/-- The groups' first ranges are the two halves of the buffer. -/
theorem region_zero (c : Dev nD) : (Finset.univ : Finset S2048x512.Idx) = region 0 0 c ∪ region 1 0 c := by
  ext i
  have hi : (i 0).val < 2048 := (i 0).isLt
  simp only [region, mem_band, Finset.mem_union, Finset.mem_univ, true_iff, base, rows]
  show _ ∧ _ ∨ _ ∧ _
  have h0 : (0 : Fin 2).val = 0 := rfl
  have h1 : (1 : Fin 2).val = 1 := rfl
  rw [h0, h1]; omega

theorem region_zero_disjoint (c c' : Dev nD) : Disjoint (region 0 0 c) (region 1 0 c') :=
  band_disjoint (Or.inl (show 1024 * 0 + 1024 / 2 ^ 0 ≤ 1024 * 1 by decide))

end Cert.CubeProof
-- ==== Proof.Values.lean ====
/-
# The values the exchange computes, and the buffers they pass through

`part x k t c` is what the work buffer of device `c` holds on the rows of group `k` after `t` steps of the reduction:
its own block, rounded, at first, then in each step its partner's value added to its own. After five steps the devices
hold the finished sums of 64 disjoint ranges of rows; `total x` puts them together.
-/
module

public import proofs.«01_k».proof.Proof.Cube
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen
open Idealize.ShloMosaic Idealize.ShloMosaic.TcCoe Idealize.SL.Sem

variable {F : FTy → Type} [FloatOps F]

/-- What a work buffer may hold. -/
abbrev Work (F : FTy → Type) : Type := S2048x512.Idx → Elt F .bf16

/-- The work buffer of device `c` on the rows of group `k` after `t` steps, from the devices' blocks `x`. -/
def part (x : Dev nD → Vec F S2048x512 .f32) (k : Fin 2) : ℕ → Dev nD → Work F
  | 0, c => k0_pay1 (x c)
  | t + 1, c => if h : t < 5 then fun i => FloatOps.addf (part x k t c i) (part x k t (mate k ⟨t, h⟩ c) i) else part x k t c

theorem part_succ (x : Dev nD → Vec F S2048x512 .f32) (k : Fin 2) (s : Fin 5) (c : Dev nD) (i : S2048x512.Idx) :
    part x k (s.val + 1) c i = FloatOps.addf (part x k s.val c i) (part x k s.val (mate k s c) i) := by
  show (if h : s.val < 5 then _ else _ : Work F) i = _
  rw [dif_pos s.isLt]

/-- The group and the device whose last range is the `r`-th run of 32 rows. -/
def owner (r : ℕ) : Fin 2 × Dev nD :=
  (((List.finRange 2).flatMap fun k => (List.finRange 32).map fun c : Dev nD => (k, c)).find?
    fun p => base p.1 5 p.2 == 32 * r).getD (0, 0)

theorem owner_base : ∀ (k : Fin 2) (c : Dev nD), owner (base k 5 c / 32) = (k, c) ∧ base k 5 c % 32 = 0 := by decide +kernel

/-- The finished sums, each taken where it was computed. -/
def total (x : Dev nD → Vec F S2048x512 .f32) : Work F := fun i =>
  part x (owner ((i 0).val / 32)).1 5 (owner ((i 0).val / 32)).2 i

/-- On a device's last range its own last value is the finished sum. -/
theorem total_eq (x : Dev nD → Vec F S2048x512 .f32) (k : Fin 2) (c : Dev nD) {i : S2048x512.Idx} (hi : i ∈ region k 5 c) :
    part x k 5 c i = total x i := by
  unfold region at hi; rw [mem_band] at hi
  obtain ⟨ho, hm⟩ := owner_base k c
  have h32 : rows 5 = 32 := by decide
  rw [h32] at hi
  have hr : (i 0).val / 32 = base k 5 c / 32 := by
    have := Nat.div_add_mod (base k 5 c) 32
    omega
  unfold total; rw [hr, ho]

/-! ## The buffers and the parts of them that move -/

abbrev xM : Memref sig .tc .vmem S2048x512 .f32 := Memref.whole cc0_stg0_0
abbrev oM : Memref sig .tc .vmem S2048x512 .f32 := Memref.whole cc0_stg1_0
abbrev wM : Memref sig .tc .vmem S2048x512 .bf16 := Memref.whole cc0_scratch0
abbrev rM : Memref sig .tc .vmem S1984x512 .bf16 := Memref.whole cc0_scratch1

/-- The shape of the half that moves in step `s`. -/
abbrev half (s : Fin 5) : Shape := ⟨2, ![rows (s.val + 1), 512]⟩

theorem region_inb (k : Fin 2) (s : Fin 5) (c : Dev nD) :
    ∀ a, at0 (base k (s.val + 1) c) a + (half s).size a ≤ S2048x512.size a := by
  intro a
  match a with
  | 0 => exact base_le k ⟨s.val + 1, by omega⟩ c
  | 1 => exact Nat.le_refl 512

theorem slot_inb (k : Fin 2) (s : Fin 5) : ∀ a, at0 (slot k s) a + (half s).size a ≤ S1984x512.size a := by
  intro a
  match a with
  | 0 => exact slot_le k s
  | 1 => exact Nat.le_refl 512

/-- The rows of the work buffer that device `c` keeps in step `s` of group `k`. -/
abbrev keep (k : Fin 2) (s : Fin 5) (c : Dev nD) : Rect S2048x512 :=
  Rect.unit (s := S2048x512) (at0 (base k (s.val + 1) c)) (half s).size (region_inb k s c)

/-- The rows of the landing buffer where step `s` of group `k` lands. -/
abbrev land (k : Fin 2) (s : Fin 5) : Rect S1984x512 :=
  Rect.unit (s := S1984x512) (at0 (slot k s)) (half s).size (slot_inb k s)

abbrev keepM (k : Fin 2) (s : Fin 5) (c : Dev nD) : Memref sig .tc .vmem (half s) .bf16 := wM.slice (keep k s c) (fun _ => rfl)
abbrev landM (k : Fin 2) (s : Fin 5) : Memref sig .tc .vmem (half s) .bf16 := rM.slice (land k s) (fun _ => rfl)

/-- The elements of the landing buffer where step `s` of group `k` lands. -/
def landing (k : Fin 2) (s : Fin 5) : Finset S1984x512.Idx := band 1984 (slot k s) (rows (s.val + 1))

theorem keep_set (k : Fin 2) (s : Fin 5) (c : Dev nD) : (keepM k s c).view.set = region k (s.val + 1) c :=
  (View.set_slice_whole _ _).trans (rect_band _)

theorem land_set (k : Fin 2) (s : Fin 5) : (landM k s).view.set = landing k s :=
  (View.set_slice_whole _ _).trans (rect_band _)

theorem slots_apart : ∀ k k' : Fin 2, ∀ s s' : Fin 5, (k, s) ≠ (k', s') →
    slot k s + rows (s.val + 1) ≤ slot k' s' ∨ slot k' s' + rows (s'.val + 1) ≤ slot k s := by decide

/-- Two slots of the landing buffer are apart, -/
theorem landing_disjoint (p p' : Fin 2 × Fin 5) (h : p ≠ p') : Disjoint (landing p.1 p.2) (landing p'.1 p'.2) :=
  band_disjoint (slots_apart p.1 p'.1 p.2 p'.2 h)

theorem slots_cover : ∀ r : Fin 1984, ∃ p : Fin 2 × Fin 5, slot p.1 p.2 ≤ r.val ∧ r.val < slot p.1 p.2 + rows (p.2.val + 1) := by
  decide +kernel

/-- and together they are all of it. -/
theorem landing_cover : (Finset.univ : Finset (Fin 2 × Fin 5)).biUnion (fun p => landing p.1 p.2) = Finset.univ := by
  ext i
  simp only [Finset.mem_biUnion, Finset.mem_univ, true_and, iff_true]
  obtain ⟨p, hp⟩ := slots_cover (i 0)
  exact ⟨p, mem_band.mpr hp⟩

/-! ## What the program writes -/

/-- What a transfer of the rows kept in a step writes there is what the source holds there. -/
theorem copy_keep (k : Fin 2) (s : Fin 5) (c : Dev nD) (f g : Work F) {i : S2048x512.Idx} (hi : i ∈ region k (s.val + 1) c) :
    (keepM k s c).view.write (Elt F) f ((keepM k s c).view.read (Elt F) g) Finset.univ i = g i := by
  rw [← keep_set] at hi
  obtain ⟨x, -, rfl⟩ := Finset.mem_map.mp hi
  exact View.write_emb_of_mem _ _ (Finset.mem_univ x)

/-- Adding what landed to the rows kept makes them the next step's values. -/
theorem add_keep (x : Dev nD → Vec F S2048x512 .f32) (k : Fin 2) (s : Fin 5) (c : Dev nD) (g : S1984x512.Idx → Elt F .bf16)
    (hg : (landM k s).view.read (Elt F) g = (keepM k s c).view.read (Elt F) (part x k s.val (mate k s c)))
    {i : S2048x512.Idx} (hi : i ∈ region k (s.val + 1) c) :
    (wM.access (keep k s c)).write (Elt F) (part x k s.val c)
        (addf (F := F) (φ := .bf16) ((wM.access (keep k s c)).read (Elt F) (part x k s.val c)) ((rM.access (land k s)).read (Elt F) g))
        Finset.univ i
      = part x k (s.val + 1) c i := by
  rw [show (rM.access (land k s)).read (Elt F) g = (keepM k s c).view.read (Elt F) (part x k s.val (mate k s c)) from hg, part_succ]
  rw [← keep_set] at hi
  obtain ⟨y, -, rfl⟩ := Finset.mem_map.mp hi
  exact View.write_emb_of_mem _ _ (Finset.mem_univ y)

end Cert.CubeProof
-- ==== Proof.Protocol.lean ====
/-
# The protocol: who signals whom, what a signal hands over, what each device owes

Every device has one barrier cell, which its five partners signal, and forty transfer cells: for each group and step
of the reduction one its own transfer leaves (`out`) and one its partner's transfer arrives at (`arrive`), and for each
group and step of the gathering again two (`lend`, `gather`). Each cell is used in a single round.

* A partner's barrier signal hands over the two slots of the partner's landing buffer that this device writes.
* A transfer of the reduction hands over, on arrival, the slot it filled and the rows it was sent from: the partner
  writes its finished sums back there later.
* A transfer of the gathering hands over the rows it filled with finished sums, and gives the sender back the share of
  the rows it was sent from.
-/
module

public import proofs.«01_k».proof.Proof.Values

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the cells, with duties named by `Fin 5`. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore of the launch. -/
abbrev barS : Sem sig := (SemArray.scalar (sig.barrier 0 rfl) : Sems sig S_).sem

/-- A transfer cell: its kind (0 `out`, 1 `arrive`, 2 `lend`, 3 `gather`), its group and its step. -/
abbrev Role : Type := Fin 4 × Fin 2 × Fin 5

/-- The transfer semaphore of a role. -/
@[reducible] def dsem (r : Role) : DmaSem sig :=
  ⟨(![2 + 2 * r.2.2.val + r.2.1.val, 22 + 5 * r.2.1.val + r.2.2.val, 12 + 2 * (4 - r.2.2.val) + r.2.1.val,
    32 + 5 * r.2.1.val + r.2.2.val] : Fin 4 → ℕ) r.1 % 42, Nat.mod_lt _ (by decide)⟩

/-- The role of a transfer semaphore. -/
def roleOf (j : DmaSem sig) : Role :=
  (((List.finRange 4).flatMap fun a => (List.finRange 2).flatMap fun k => (List.finRange 5).map fun s => ((a, k, s) : Role)).find?
    fun r => dsem r == j).getD (0, 0, 0)

theorem roleOf_dsem : ∀ r : Role, roleOf (dsem r) = r := by decide +kernel
theorem dsem_ne_stage : ∀ r : Role, 2 ≤ (dsem r).val := by decide +kernel
theorem dsem_inj : Function.Injective dsem := fun r r' h => by rw [← roleOf_dsem r, h, roleOf_dsem]

/-- A device's cells: its barrier (`none`) and its transfer cells. -/
abbrev csem : Option Role → SemLoc sig
  | none => .reg barS
  | some r => .dma (dsem r)
abbrev cell (c : Dev nD) (o : Option Role) : GSem nD τ sig := ((c : Thread nD τ), csem o)

theorem csem_inj : Function.Injective csem := by
  intro o o' h
  match o, o' with
  | none, none => rfl
  | none, some r => cases h
  | some r, none => cases h
  | some r, some r' => rw [dsem_inj (SemLoc.dma.inj h)]

theorem cell_eq_iff {c c' : Dev nD} {o o' : Option Role} : cell c o = cell c' o' ↔ c = c' ∧ o = o' := by
  constructor
  · intro h
    exact ⟨congrArg (fun g : GSem nD τ sig => g.1.1) h, csem_inj (congrArg Prod.snd h)⟩
  · rintro ⟨rfl, rfl⟩; rfl

/-! ## What a transfer counts -/

/-- The credit of a transfer of step `s`. -/
def cr (s : Fin 5) : ℕ := (landM 0 s).view.dmaCredit
theorem cr_pos (s : Fin 5) : 0 < cr s := View.dmaCredit_pos _ (by revert s; decide)
theorem land_credit (k : Fin 2) (s : Fin 5) : (landM k s).view.dmaCredit = cr s := rfl
theorem keep_credit (k : Fin 2) (s : Fin 5) (c : Dev nD) : (keepM k s c).view.dmaCredit = cr s := by
  unfold cr
  fin_cases s <;> rfl

/-! ## Shares of the finished rows -/

/-- What a device keeps of its finished rows after lending `t` times, -/
def rem : ℕ → PosShare TreeShare
  | 0 => fullShare
  | t + 1 => (rem t).right
/-- and what it lends the next time. -/
def lent (t : ℕ) : PosShare TreeShare := (rem t).left

/-! ## What the cells hand over -/

/-- The work buffer of device `c` on the elements `I`, at share `q`. -/
def work (c : Dev nD) (I : Finset S2048x512.Idx) (q : PosShare TreeShare) (f : Work F) : sProp 𝕄 :=
  (((c : Thread nD τ).loc cc0_scratch0) ↦[I]{q} f)
/-- The landing buffer of device `c` on the elements `I`. -/
def recv (c : Dev nD) (I : Finset S1984x512.Idx) (f : S1984x512.Idx → Elt F .bf16) : sProp 𝕄 :=
  (((c : Thread nD τ).loc cc0_scratch1) ↦[I]{fullShare} f)

/-- A slot of the landing buffer, whatever it holds. -/
def slotAny (k : Fin 2) (s : Fin 5) (c : Dev nD) : sProp 𝕄 := iprop(∃ f, recv (F := F) c (landing k s) f)

/-- What the barrier signal across dimension `d` hands device `c`: its two slots on the other side. -/
def barPay (d : Fin 5) (c : Dev nD) : sProp 𝕄 :=
  iprop(slotAny (F := F) 0 (stepOf 0 d) (peer d c) ∗ slotAny (F := F) 1 (stepOf 1 d) (peer d c))

/-- What a transfer of the reduction hands device `c` on arrival. -/
def arrivePay (x : Dev nD → Vec F S2048x512 .f32) (k : Fin 2) (s : Fin 5) (c : Dev nD) : sProp 𝕄 :=
  iprop((∃ g, ⌜(landM k s).view.read (Elt F) g = (keepM k s c).view.read (Elt F) (part x k s.val (mate k s c))⌝
      ∗ recv (F := F) c (landing k s) g)
    ∗ work (mate k s c) (region k (s.val + 1) c) fullShare (part x k s.val (mate k s c)))

/-- What a transfer cell of role `r` hands device `c`. -/
def rolePay (x : Dev nD → Vec F S2048x512 .f32) (r : Role) (c : Dev nD) : sProp 𝕄 :=
  match r.1 with
  | 0 => iprop(emp)
  | 1 => arrivePay x r.2.1 r.2.2 c
  | 2 => work c (region r.2.1 (r.2.2.val + 1) c) (lent (4 - r.2.2.val)) (total x)
  | 3 => work c (region r.2.1 (r.2.2.val + 1) (mate r.2.1 r.2.2 c)) fullShare (total x)

instance work_storable (c : Dev nD) (I) (q) (f : Work F) : BI.Storable (upEmb : UEmb _ 𝕄) (work (F := F) c I q f) := by
  unfold work; infer_instance
instance recv_storable (c : Dev nD) (I) (f) : BI.Storable (upEmb : UEmb _ 𝕄) (recv (F := F) c I f) := by
  unfold recv; infer_instance
instance barPay_storable (d : Fin 5) (c : Dev nD) : BI.Storable (upEmb : UEmb _ 𝕄) (barPay (F := F) d c) := by
  unfold barPay slotAny; infer_instance
instance rolePay_storable (x : Dev nD → Vec F S2048x512 .f32) (r : Role) (c : Dev nD) :
    BI.Storable (upEmb : UEmb _ 𝕄) (rolePay x r c) := by
  unfold rolePay arrivePay; split <;> infer_instance

/-- The schedule: one round; five duties of one unit at a barrier, one duty of the transfer's credit elsewhere. -/
def sched (x : Dev nD → Vec F S2048x512 .f32) : Rounds.Schedule (GSem nD τ sig) (Fin 5) 𝕄 where
  duties g r := if r = 0 then (match g.2 with | .reg _ => Finset.univ | .dma _ => {0}) else ∅
  unitless _ := False
  amount g _ _ := match g.2 with | .reg _ => 1 | .dma j => cr (roleOf j).2.2
  payload g _ d := match g.2 with | .reg _ => barPay d g.1.1 | .dma j => rolePay x (roleOf j) g.1.1
  amount_pos g _ _ _ := by
    match g.2 with
    | .reg _ => exact Nat.one_pos
    | .dma j => exact cr_pos _

instance sched_payload_storable (x : Dev nD → Vec F S2048x512 .f32) (g : GSem nD τ sig) (r : ℕ) (d : Fin 5) :
    BI.Storable (upEmb : UEmb _ 𝕄) ((sched x).payload g r d) := by
  show BI.Storable upEmb (match g.2 with | .reg _ => barPay d g.1.1 | .dma j => rolePay x (roleOf j) g.1.1)
  split <;> infer_instance

section Sched
variable (x : Dev nD → Vec F S2048x512 .f32) (c : Dev nD) (r : Role)

theorem duties_bar : (sched x).duties (cell c none) 0 = Finset.univ := rfl
theorem duties_role : (sched x).duties (cell c (some r)) 0 = {0} := rfl
theorem mem_duties_role : (0 : Fin 5) ∈ (sched x).duties (cell c (some r)) 0 := Finset.mem_singleton_self _
theorem duties_later (g : GSem nD τ sig) : ∀ r, 1 ≤ r → (sched x).duties g r = ∅ :=
  fun r hr => if_neg (by omega)
theorem amount_bar (d : Fin 5) : (sched x).amount (cell c none) 0 d = 1 := rfl
theorem amount_role (d : Fin 5) : (sched x).amount (cell c (some r)) 0 d = cr r.2.2 := by
  show cr (roleOf (dsem r)).2.2 = _; rw [roleOf_dsem]
theorem payload_bar (d : Fin 5) : (sched x).payload (cell c none) 0 d = barPay d c := rfl
theorem payload_role (d : Fin 5) : (sched x).payload (cell c (some r)) 0 d = rolePay x r c := by
  show rolePay x (roleOf (dsem r)) c = _; rw [roleOf_dsem]

theorem expect_bar : (sched x).expect (cell c none) 0 = 5 := by
  unfold Schedule.expect Schedule.amountOf
  rw [duties_bar, Finset.sum_congr rfl fun d _ => amount_bar x c d]; rfl
theorem expect_role : (sched x).expect (cell c (some r)) 0 = cr r.2.2 := by
  unfold Schedule.expect Schedule.amountOf; rw [duties_role, Finset.sum_singleton, amount_role]

theorem rest_bar : bigSep ((sched x).duties (cell c none) 0 \ ∅) (fun d => (sched x).payload (cell c none) 0 d)
    = bigSep Finset.univ fun d => barPay d c := by rw [Finset.sdiff_empty]; rfl
theorem rest_role : bigSep ((sched x).duties (cell c (some r)) 0 \ ∅) (fun d => (sched x).payload (cell c (some r)) 0 d)
    = rolePay x r c := by rw [Finset.sdiff_empty, duties_role, bigSep_singleton, payload_role]

end Sched

/-! ## What a device owes, in the order it pays -/

/-- The debt of a list of payments, the first to be paid split off last. -/
def due : List (GSem nD τ sig × ℕ) → CellTallies nD τ sig Unit
  | [] => 0
  | p :: l => due l + tallyAt p.1 () p.2

/-- The payments at entry, -/
abbrev barDue (c : Dev nD) (d : Fin 5) : GSem nD τ sig × ℕ := (cell (peer d c) none, 1)
/-- of a transfer of the reduction, -/
abbrev outDue (c : Dev nD) (k : Fin 2) (s : Fin 5) : GSem nD τ sig × ℕ := (cell (mate k s c) (some (1, k, s)), cr s)
/-- and of a transfer of the gathering. -/
abbrev lendDue (c : Dev nD) (k : Fin 2) (s : Fin 5) : GSem nD τ sig × ℕ := (cell (mate k s c) (some (3, k, s)), cr s)

/-- The payments of the gathering, the last step first. -/
abbrev lendDues (c : Dev nD) : List (GSem nD τ sig × ℕ) :=
  [lendDue c 0 4, lendDue c 1 4, lendDue c 0 3, lendDue c 1 3, lendDue c 0 2, lendDue c 1 2, lendDue c 0 1, lendDue c 1 1,
    lendDue c 0 0, lendDue c 1 0]
/-- The payments after the entry. -/
abbrev outDues (c : Dev nD) : List (GSem nD τ sig × ℕ) :=
  outDue c 0 0 :: outDue c 1 0 :: outDue c 0 1 :: outDue c 1 1 :: outDue c 0 2 :: outDue c 1 2 :: outDue c 0 3 :: outDue c 1 3
    :: outDue c 0 4 :: outDue c 1 4 :: lendDues c
/-- All of a device's payments. -/
abbrev allDues (c : Dev nD) : List (GSem nD τ sig × ℕ) :=
  barDue c 0 :: barDue c 1 :: barDue c 2 :: barDue c 3 :: barDue c 4 :: outDues c

/-- Cells live on the devices' cores only. -/
def L (g : GSem nD τ sig) : Finset Unit := if g.1.2 = .tc then {()} else ∅

/-- The order of the waits: the barrier, the arrivals by step, the gathering by step from the last; a wait for a
    transfer's own departure, or for a block on its way in or out, waits for nobody. -/
@[reducible] def level (o : Option Role) : ℕ :=
  match o with
  | none => 1
  | some (a, _, s) => (![0, 2 + s.val, 0, 7 + (4 - s.val)] : Fin 4 → ℕ) a
def lv (g : GSem nD τ sig) (_ : Unit) : ℕ :=
  match g.2 with
  | .reg _ => 1
  | .dma j => if j.val < 2 then 0 else level (some (roleOf j))

theorem lv_cell (c : Dev nD) (o : Option Role) (u : Unit) : lv (cell c o) u = level o := by
  match o with
  | none => rfl
  | some r =>
    show (if (dsem r).val < 2 then 0 else level (some (roleOf (dsem r)))) = _
    rw [if_neg (by have := dsem_ne_stage r; omega), roleOf_dsem]

theorem L_of_ne (g : GSem nD τ sig) (h : g.1.2 ≠ .tc) : L g = ∅ := if_neg h
theorem L_tc (c : Dev nD) (sm : SemLoc sig) : L ((c : Thread nD τ), sm) = {()} := if_pos rfl

/-- A cell with a debt is one of the payments'. -/
theorem due_pos {l : List (GSem nD τ sig × ℕ)} {g : GSem nD τ sig} {u : Unit} (h : 0 < due l g u) : ∃ p ∈ l, g = p.1 := by
  induction l with
  | nil => exact absurd h (Nat.lt_irrefl 0)
  | cons p l ih =>
    by_cases hg : g = p.1
    · exact ⟨p, List.mem_cons_self, hg⟩
    · have h' : 0 < due l g u := by
        have e : due (p :: l) g u = due l g u := by
          show (due l + tallyAt p.1 () p.2) g u = _
          rw [Pi.add_apply, Finsupp.add_apply, tallyAt_apply, if_neg (fun hh => hg hh.1), Nat.add_zero]
        rwa [e] at h
      obtain ⟨q, hq, e⟩ := ih h'
      exact ⟨q, List.mem_cons_of_mem _ hq, e⟩

/-- A wait below every cell still to be paid is allowed. -/
theorem mayWait_due (c : Dev nD) (sm : SemLoc sig) (l : List (GSem nD τ sig × ℕ)) (n : ℕ)
    (hs : lv ((c : Thread nD τ), sm) () ≤ n) (hl : ∀ p ∈ l, p.1.1.2 = .tc ∧ n < lv p.1 ()) :
    (levAts L lv : sProp 𝕄) ⊢ MayWait (c : Thread nD τ) sm () (due l) := by
  refine MayOwe.of_cut (L := L) (lev := lv) n (fun p hp => by rw [Finset.mem_singleton.mp hp, L_tc]; exact Finset.mem_singleton_self _)
    (fun g u hg => ?_) (fun p hp => by rw [Finset.mem_singleton.mp hp]; exact hs) (fun g u hg => ?_)
  · obtain ⟨p, hp, rfl⟩ := due_pos hg
    unfold L; rw [if_pos (hl p hp).1]; exact Finset.mem_singleton_self _
  · obtain ⟨p, hp, rfl⟩ := due_pos hg
    exact (hl p hp).2

/-- Payments to cells above level `n`. -/
def Above (n : ℕ) (l : List (GSem nD τ sig × ℕ)) : Prop := ∀ p ∈ l, ∃ d o, p.1 = cell d o ∧ n < level o

theorem above_nil (n : ℕ) : Above n [] := fun _ h => nomatch h
theorem above_cons {n : ℕ} {l : List (GSem nD τ sig × ℕ)} {d : Dev nD} {o : Option Role} {N : ℕ} (h : n < level o) (hl : Above n l) :
    Above n ((cell d o, N) :: l) := fun p hp => by
  rcases List.mem_cons.mp hp with rfl | hp
  · exact ⟨d, o, rfl, h⟩
  · exact hl p hp
theorem Above.wait {n : ℕ} {l : List (GSem nD τ sig × ℕ)} (h : Above n l) : ∀ p ∈ l, p.1.1.2 = .tc ∧ n < lv p.1 () := fun p hp => by
  obtain ⟨d, o, e, ho⟩ := h p hp
  rw [e, lv_cell]; exact ⟨rfl, ho⟩

end Cert.CubeProof
-- ==== Proof.Steps.lean ====
/-
# The steps of the exchange, each proved once for every group, step and device

One rule for each kind of operation of the kernel: a transfer of the reduction, its arrival and the addition, a
transfer of the gathering, its arrival, and the wait for a transfer's own departure.
-/
module

public import proofs.«01_k».proof.Proof.Protocol

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Every cell's invariant, under the names `K`, and that every cell is at its one round. -/
def records (x : Dev nD → Vec F S2048x512 .f32) (K : Dev nD × Option Role → ℕ) : sProp 𝕄 :=
  iprop((bigSep Finset.univ fun co : Dev nD × Option Role => cellInv ER (sched x) (K co) (cell co.1 co.2))
    ∗ bigSep Finset.univ fun co : Dev nD × Option Role => reached ER (cell co.1 co.2) 0)

instance records_persistent (x : Dev nD → Vec F S2048x512 .f32) (K) : BI.Persistent (records x K) := by
  unfold records; infer_instance

/-- One cell's invariant and mark. -/
theorem records_at (x : Dev nD → Vec F S2048x512 .f32) (K) (c : Dev nD) (o : Option Role) :
    records x K ⊢ iprop(cellInv ER (sched x) (K (c, o)) (cell c o) ∗ reached ER (cell c o) 0) := by
  unfold records
  iintro ⟨#HI, #HR⟩
  isplitr
  · iapply (show (bigSep Finset.univ fun co : Dev nD × Option Role => cellInv ER (sched x) (K co) (cell co.1 co.2) : sProp 𝕄)
      ⊢ cellInv ER (sched x) (K (c, o)) (cell c o) from bigSep_elim (Finset.mem_univ (c, o))); iexact HI
  · iapply (show (bigSep Finset.univ fun co : Dev nD × Option Role => reached ER (cell co.1 co.2) 0 : sProp 𝕄)
      ⊢ reached ER (cell c o) 0 from bigSep_elim (Finset.mem_univ (c, o))); iexact HR

/-- A device's debt, whatever it has waited for. -/
def owing (c : Dev nD) (l : List (GSem nD τ sig × ℕ)) : sProp 𝕄 := iprop(∃ W, owes (c : Thread nD τ) (due l) W)

/-- The credit of the transfer cell `r` of device `c`. -/
abbrev credit (r : Role) (c : Dev nD) : sProp 𝕄 := cred (tallyAt (cell c (some r)) () (cr r.2.2))
/-- A device's position at one of its cells, before its round. -/
abbrev before (c : Dev nD) (o : Option Role) : sProp 𝕄 := atPos ER (cell c o) 0 ∅ 0
/-- The right to pay the duty of a transfer cell. -/
abbrev token (r : Role) (c : Dev nD) : sProp 𝕄 := dutyTok ER (cell c (some r)) 0 (0 : Fin 5)

section
variable (x : Dev nD → Vec F S2048x512 .f32) (K : Dev nD × Option Role → ℕ)

/-- The wait for the one transfer of the cell `r`: it hands over its payload and the cell is done. -/
theorem wp_wait_role (r : Role) (c : Dev nD) (l : List (GSem nD τ sig × ℕ)) {k' : ℕ} (hk' : k' = cr r.2.2)
    (hl : Above (level (some r)) l)
    {w : TpuEff nD τ sig (Elt F) Λ₀ .tc PUnit} {α : Type} {k : PUnit → Prog (TpuEff nD τ sig (Elt F) Λ₀ .tc) α} {Q : α → sProp 𝕄}
    (hw : ∀ Kt : PUnit → sProp 𝕄, wpE (defs₀ (F := F)) 𝒱₀ (c : Thread nD τ) none Set.univ w Kt
      = waitSpec (c : Thread nD τ) Set.univ (.dma (dsem r)) k' Kt) :
    iprop(records x K ∗ levAts L lv ∗ owing c l ∗ credit r c ∗ before c (some r))
      ⊢ iprop(((owing c l ∗ semVal (cell c (some r)) 0 ∗ rolePay x r c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk'
  unfold owing
  iintro ⟨#HR, #Hlev, ⟨%W, HO⟩, Hc, Hat⟩ Hk
  ihave HC := (records_at x K c (some r)) $$ HR
  icases HC with ⟨#HI, -⟩
  iapply (Rounds.wp_wait_rest_token 𝒱₀ ER (sched x) (c : Thread nD τ) none (κ := K (c, some r)) hw (Set.mem_univ _) ()
      (O := due l) (W := W) (R := 0) (m := 0) (T := ∅) (by rw [Nat.zero_add]; exact (expect_role x c r).symm)) $$ [Hc HO Hat]
  · isplitr; · iexact HI
    isplitl [Hc]; · iexact Hc
    isplitl [HO]; · iexact HO
    isplitr
    · iapply (mayWait_due c _ l (level (some r)) (le_of_eq (lv_cell c (some r) ())) hl.wait); iexact Hlev
    iexact Hat
  iintro ⟨HO, Hat, -, Hpay⟩
  ihave Hp := (Entails.of_eq (rest_role x c r)) $$ Hpay
  imod (Rounds.cell_close ER (sched x) (Set.mem_univ (K (c, some r))) (fun h => h) (R := 0 + 1) (duties_later x (cell c (some r)))) $$ [Hat] with Hz
  · isplitr; · iexact HI
    iexact Hat
  iapply Hk
  isplitl [HO]; · iexists _; iexact HO
  isplitl [Hz] <;> iassumption

/-! ## The reduction -/

/-- What a device needs, besides its rows, for the step `s` of group `k` of the reduction: the partner's slot, the
    tokens it pays with, and its position and credit at the cell its partner's transfer arrives at. -/
def outTodo (k : Fin 2) (s : Fin 5) (c : Dev nD) : sProp 𝕄 :=
  iprop(slotAny (F := F) k s (mate k s c) ∗ token (0, k, s) c ∗ token (1, k, s) (mate k s c)
    ∗ before c (some (1, k, s)) ∗ credit (1, k, s) c)

/-- Between its transfer and its partner's arrival: the rows it keeps, and the credit of its own transfer. -/
def outMid (k : Fin 2) (s : Fin 5) (c : Dev nD) : sProp 𝕄 :=
  iprop(work c (region k (s.val + 1) c) fullShare (part x k s.val c)
    ∗ before c (some (1, k, s)) ∗ credit (1, k, s) c ∗ credit (0, k, s) c)

/-- What a step of the reduction leaves besides the rows kept: the slot of its own that was filled, its partner's rows
    it may write later, the arrival cell done, and the credit of its own transfer. -/
def outDone (k : Fin 2) (s : Fin 5) (c : Dev nD) : sProp 𝕄 :=
  iprop(slotAny (F := F) k s c ∗ work (mate k s c) (region k (s.val + 1) c) fullShare (part x k s.val (mate k s c))
    ∗ semVal (cell c (some (1, k, s))) 0 ∗ credit (0, k, s) c)

/-- A device's rows of group `k` after `t` steps of the reduction. -/
abbrev rowsAt (k : Fin 2) (t : ℕ) (c : Dev nD) : sProp 𝕄 := work c (region k t c) fullShare (part x k t c)

/-- The rows before a step are those kept and those handed over. -/
theorem rows_split (k : Fin 2) (s : Fin 5) (c : Dev nD) (q : PosShare TreeShare) (f : Work F) :
    (work c (region k s.val c) q f : sProp 𝕄)
      ⊣⊢ iprop(work c (region k (s.val + 1) c) q f ∗ work c (region k (s.val + 1) (mate k s c)) q f) := by
  unfold work; rw [region_split k s c]; exact pointsTo_union (region_disjoint k s c)

/-- The rows kept, after the addition of what landed. -/
theorem rows_add (k : Fin 2) (s : Fin 5) (c : Dev nD) (g : S1984x512.Idx → Elt F .bf16)
    (hg : (landM k s).view.read (Elt F) g = (keepM k s c).view.read (Elt F) (part x k s.val (mate k s c))) :
    (work c (region k (s.val + 1) c) fullShare ((wM.access (keep k s c)).write (Elt F) (part x k s.val c)
        (addf (F := F) (φ := .bf16) ((wM.access (keep k s c)).read (Elt F) (part x k s.val c)) ((rM.access (land k s)).read (Elt F) g))
        Finset.univ) : sProp 𝕄) = rowsAt x k (s.val + 1) c := by
  unfold rowsAt work; exact pointsTo_congr fun i hi => add_keep x k s c g hg hi

/-- A transfer of the reduction. -/
theorem wp_out (k : Fin 2) (s : Fin 5) (c n : Dev nD) (hn : n = mate k s c) (l : List (GSem nD τ sig × ℕ))
    {o o' : Fin 2 → ℕ} (ho : o = at0 (base k (s.val + 1) (mate k s c))) (ho' : o' = at0 (slot k s))
    {inb : ∀ a, o a + (half s).size a ≤ S2048x512.size a} {inb' : ∀ a, o' a + (half s).size a ≤ S1984x512.size a}
    {sS sR : DmaSem sig} (hS : sS = dsem (0, k, s)) (hR : sR = dsem (1, k, s)) {hu hu'} {hsc} {hsrc} {hdst} {hsem}
    {α : Type} {p : PUnit → Prog (TpuEff nD τ sig (Elt F) Λ₀ .tc) α} {Q : α → sProp 𝕄} :
    iprop(records x K ∗ rowsAt x k s.val c ∗ outTodo (F := F) k s c ∗ owing c (outDue c k s :: l))
      ⊢ iprop(((outMid x k s c ∗ owing c l) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (wM.slice (Rect.unit (s := S2048x512) o (half s).size inb) hu)
                (.remote (Dev.tc n : Thread nD τ) (rM.slice (Rect.unit (s := S1984x512) o' (half s).size inb') hu') (.dma sS) hsc)
                (.dma sR) hsrc hdst hsem) p) Q) := by
  subst hn ho ho' hS hR
  unfold outTodo outMid owing slotAny
  iintro ⟨#HR, Hrows, ⟨⟨%fd, Hslot⟩, Ht0, Ht1, Hat, Hc⟩, ⟨%W, HO⟩⟩ Hk
  ihave HA := (records_at x K c (some (0, k, s))) $$ HR
  icases HA with ⟨#HI0, #Hr0⟩
  ihave HB := (records_at x K (mate k s c) (some (1, k, s))) $$ HR
  icases HB with ⟨#HI1, #Hr1⟩
  ihave HS := (rows_split k s c fullShare (part x k s.val c)).1 $$ Hrows
  icases HS with ⟨Hkeep, Hgive⟩
  iapply (Rounds.wp_send_landing_pointsTo 𝒱₀ ER (sched x) (c : Thread nD τ) none (c' := (mate k s c : Thread nD τ))
      (src := keepM k s (mate k s c)) (dst := landM k s) (q := fullShare) (fs := part x k s.val c)
      (κ₁ := K (c, some (0, k, s))) (κ₂ := K (mate k s c, some (1, k, s))) (r₁ := 0) (r₂ := 0) (d₁ := 0) (d₂ := 0) (fd := fd)
      (mem_duties_role x c _) (mem_duties_role x (mate k s c) _) () () (cr s) (land_credit k s)
      (amount_role x c (0, k, s) 0) (amount_role x (mate k s c) (1, k, s) 0) (due l) rfl (W := W)
      (by rw [payload_role]; exact BI.Entails.refl _)
      (by
        rw [payload_role, keep_set, land_set]
        show _ ⊢ arrivePay x k s (mate k s c)
        unfold arrivePay
        rw [mate_mate]
        iintro ⟨H1, H2⟩
        isplitl [H1]
        · iexists (landM k s).view.write (Elt F) fd ((keepM k s (mate k s c)).view.read (Elt F) (part x k s.val c)) Finset.univ
          isplitr
          · ipureintro; exact View.read_write_univ _ _
          · unfold recv; iexact H1
        · unfold work; iexact H2)) $$ [Hgive Hslot HO Ht0 Ht1]
  · isplitr; · iexact HI0
    isplitr; · iexact HI1
    isplitl [Hgive]; · rw [keep_set]; unfold work; iexact Hgive
    isplitl [Hslot]; · rw [land_set]; unfold recv; iexact Hslot
    isplitl [HO]; · iexact HO
    isplitl [Ht0]; · iexact Ht0
    isplitr; · iexact Hr0
    isplitl [Ht1]; · iexact Ht1
    iexact Hr1
  iintro ⟨Hc0, HO⟩
  iapply Hk
  isplitr [HO]
  · isplitl [Hkeep]; · iexact Hkeep
    isplitl [Hat]; · iexact Hat
    isplitl [Hc]; · iexact Hc
    iexact Hc0
  · iexists W; iexact HO

/-- The arrival of the partner's transfer, and the addition of what landed to the rows kept. -/
theorem wp_arrive (k : Fin 2) (s : Fin 5) (c : Dev nD) (l : List (GSem nD τ sig × ℕ)) (hl : Above (2 + s.val) l)
    {o o' : Fin 2 → ℕ} (ho : o = at0 (base k (s.val + 1) c)) (ho' : o' = at0 (slot k s))
    {inb : ∀ a, o a + (half s).size a ≤ S2048x512.size a} {inb' : ∀ a, o' a + (half s).size a ≤ S1984x512.size a}
    {sR : DmaSem sig} (hR : sR = dsem (1, k, s)) {sp : Space} {src : Memref sig .tc sp (half s) .bf16} {hu'} {hsrc} {hdst}
    {pay : FVec F (half s) .bf16 → FVec F (half s) .bf16 → FVec F (half s) .bf16} (hpay : pay = fun v w => addf v w)
    {hl1 hl3 : wM.view.LoadsAt (Rect.unit (s := S2048x512) o (half s).size inb).toLoadRect}
    {hl2 : rM.view.LoadsAt (Rect.unit (s := S1984x512) o' (half s).size inb').toLoadRect} {hx hm}
    {α : Type} {p : PUnit → Prog (TpuEff nD τ sig (Elt F) Λ₀ .tc) α} {Q : α → sProp 𝕄} :
    iprop(records x K ∗ levAts L lv ∗ outMid x k s c ∗ owing c l)
      ⊢ iprop(((rowsAt x k (s.val + 1) c ∗ outDone x k s c ∗ owing c l)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.waitDma2 sR src (rM.slice (Rect.unit (s := S1984x512) o' (half s).size inb') hu') hsrc hdst) fun _ =>
                .op (.load (e := .bf16) wM (Rect.unit (s := S2048x512) o (half s).size inb).toLoadRect hl1) fun (v : FVec F (half s) .bf16) =>
                .op (.load (e := .bf16) rM (Rect.unit (s := S1984x512) o' (half s).size inb').toLoadRect hl2) fun (v' : FVec F (half s) .bf16) =>
                .op (.load (e := .bf16) wM (Rect.unit (s := S2048x512) o (half s).size inb).toLoadRect hl3) fun _ =>
                .op (.store wM (Rect.unit (s := S2048x512) o (half s).size inb) (pay v v') Finset.univ hx hm) p) Q) := by
  subst ho ho' hR hpay
  unfold outMid outDone
  iintro ⟨#HR, #Hlev, ⟨Hkeep, Hat, Hc, Hc0⟩, HO⟩ Hk
  iapply (wp_wait_role x K (1, k, s) c l (land_credit k s) hl (wpE_waitDma2_eq 𝒱₀ (c : Thread nD τ) none Set.univ)) $$ [HO Hc Hat]
  · isplitr; · iexact HR
    isplitr; · iexact Hlev
    isplitl [HO]; · iexact HO
    isplitl [Hc] <;> iassumption
  iintro ⟨HO, Hz, Hp⟩
  ihave Hp := (show rolePay x (1, k, s) c ⊢ arrivePay x k s c from BI.Entails.refl _) $$ Hp
  unfold arrivePay
  icases Hp with ⟨⟨%g, %hg, Hg⟩, Hpeer⟩
  unfold work recv
  iapply (wp_load_rect 𝒱₀ (c : Thread nD τ) none Set.univ (m := wM) (r := keep k s c) (le_of_eq (keep_set k s c))) $$ Hkeep; iintro Hkeep
  iapply (wp_load_rect 𝒱₀ (c : Thread nD τ) none Set.univ (m := rM) (r := land k s) (le_of_eq (land_set k s))) $$ Hg; iintro Hg
  iapply (wp_load_rect 𝒱₀ (c : Thread nD τ) none Set.univ (m := wM) (r := keep k s c) (le_of_eq (keep_set k s c))) $$ Hkeep; iintro Hkeep
  iapply (wp_store 𝒱₀ (c : Thread nD τ) none Set.univ (m := wM) (r := keep k s c) (Mk := Finset.univ) (le_of_eq (keep_set k s c))) $$ Hkeep
  iintro Hkeep
  iapply Hk
  isplitl [Hkeep]
  · iapply (Entails.of_eq (rows_add x k s c g hg)); unfold work; iexact Hkeep
  isplitr [HO]
  · isplitl [Hg]; · unfold slotAny recv; iexists g; iexact Hg
    isplitl [Hpeer]; · iexact Hpeer
    isplitl [Hz] <;> iassumption
  · iexact HO

end

end Cert.CubeProof
-- ==== Proof.Gather.lean ====
/-
# The steps of the gathering, each proved once for every group, step and device

A device passes on the finished rows it holds while its earlier transfers of the same rows may still be under way: it
lends each transfer a share of the rows and keeps the rest, and puts the shares together when the transfers have left.
-/
module

public import proofs.«01_k».proof.Proof.Steps
public import Idealize.SL.BI.BigOpNat

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares -/

/-- Lending once more splits what is kept. -/
theorem lend_split (c : Dev nD) (I : Finset S2048x512.Idx) (t : ℕ) (f : Work F) :
    (work c I (rem t) f : sProp 𝕄) = iprop(work c I (lent t) f ∗ work c I (rem (t + 1)) f) := by
  unfold work
  have h : ((((c : Thread nD τ).loc cc0_scratch0) ↦[I]{rem t} f : sProp 𝕄))
      ⊣⊢ iprop((((c : Thread nD τ).loc cc0_scratch0) ↦[I]{lent t} f) ∗ (((c : Thread nD τ).loc cc0_scratch0) ↦[I]{rem (t + 1)} f)) :=
    pointsTo_share (PosShare.mem_left_op_right _)
  exact BI.equiv_iff.mp ⟨h.1, h.2⟩

/-- The whole is what is kept after lending `t` times and what was lent. -/
theorem lend_all (c : Dev nD) (I : Finset S2048x512.Idx) (f : Work F) (t : ℕ) :
    (work c I fullShare f : sProp 𝕄) = iprop(work c I (rem t) f ∗ bigSep (Finset.range t) fun j => work c I (lent j) f) := by
  induction t with
  | zero =>
    rw [Finset.range_zero, bigSep_empty]
    exact (BI.equiv_iff.mp ⟨(sep_emp (PROP := sProp 𝕄)).2, (sep_emp (PROP := sProp 𝕄)).1⟩)
  | succ t ih =>
    rw [ih, lend_split c I t f, bigSep_range_succ]
    generalize (bigSep (Finset.range t) fun j => work c I (lent j) f : sProp 𝕄) = B
    generalize (work c I (lent t) f : sProp 𝕄) = A
    generalize (work c I (rem (t + 1)) f : sProp 𝕄) = C
    have h1 : iprop((A ∗ C) ∗ B) ⊢ iprop(C ∗ A ∗ B) := by
      iintro ⟨⟨H1, H2⟩, H3⟩
      isplitl [H2]; · iexact H2
      isplitl [H1] <;> iassumption
    have h2 : iprop(C ∗ A ∗ B) ⊢ iprop((A ∗ C) ∗ B) := by
      iintro ⟨H2, H1, H3⟩
      isplitr [H3]
      · isplitl [H1] <;> iassumption
      · iexact H3
    exact BI.equiv_iff.mp ⟨h1, h2⟩

/-- Shares of two sets of elements that are apart are shares of both. -/
theorem work_union (c : Dev nD) {I J : Finset S2048x512.Idx} (h : Disjoint I J) (q : PosShare TreeShare) (f : Work F) :
    (work c (I ∪ J) q f : sProp 𝕄) = iprop(work c I q f ∗ work c J q f) := by
  unfold work
  have e := pointsTo_union (ℓ := (c : Thread nD τ).loc cc0_scratch0) (q := q) (f := f) (Val := Elt F) (Ix := Unit) (Name := ℕ) (U := UU) (Lvl := ℕ) h
  exact BI.equiv_iff.mp ⟨e.1, e.2⟩

/-! ## The state between the steps -/

/-- The finished rows of group `k` a device holds when the steps from `t` on are done, at the share it keeps. -/
def held (x : Dev nD → Vec F S2048x512 .f32) (k : Fin 2) (t : ℕ) (c : Dev nD) : sProp 𝕄 :=
  work c (region k t c) (rem (5 - t)) (total x)

/-- The shares of the same rows lent to transfers. -/
def lentAll (x : Dev nD → Vec F S2048x512 .f32) (k : Fin 2) (t : ℕ) (c : Dev nD) : sProp 𝕄 :=
  bigSep (Finset.range (5 - t)) fun j => work c (region k t c) (lent j) (total x)

/-- What a device needs, besides its rows and its partner's, for the step `s` of group `k` of the gathering. -/
def lendTodo (k : Fin 2) (s : Fin 5) (c : Dev nD) : sProp 𝕄 :=
  iprop(token (F := F) (2, k, s) c ∗ token (3, k, s) (mate k s c) ∗ before c (some (3, k, s)) ∗ credit (3, k, s) c)

/-- Between its transfer and its partner's arrival. -/
def lendMid (x : Dev nD → Vec F S2048x512 .f32) (k : Fin 2) (s : Fin 5) (c : Dev nD) : sProp 𝕄 :=
  iprop(work c (region k (s.val + 1) c) (rem (5 - s.val)) (total x)
    ∗ before c (some (3, k, s)) ∗ credit (3, k, s) c ∗ credit (2, k, s) c)

/-- What a step of the gathering leaves besides the rows held: of the rows that arrived the shares that later
    transfers of the device's own rows were lent, the arrival cell done, and the credit of its own transfer. -/
def lendDone (x : Dev nD → Vec F S2048x512 .f32) (k : Fin 2) (s : Fin 5) (c : Dev nD) : sProp 𝕄 :=
  iprop((bigSep (Finset.range (5 - s.val)) fun j => work c (region k (s.val + 1) (mate k s c)) (lent j) (total x))
    ∗ semVal (cell c (some (3, k, s))) 0 ∗ credit (2, k, s) c)

section
variable (x : Dev nD → Vec F S2048x512 .f32) (K : Dev nD × Option Role → ℕ)

/-- After the reduction a device's last range holds finished sums. -/
theorem held_last (k : Fin 2) (c : Dev nD) : (rowsAt x k 5 c : sProp 𝕄) = held x k 5 c := by
  unfold rowsAt held work; exact pointsTo_congr fun i hi => total_eq x k c hi

theorem steps_left (s : Fin 5) : 5 - (s.val + 1) = 4 - s.val ∧ 5 - s.val = 4 - s.val + 1 := by omega

/-- A transfer of the gathering. -/
theorem wp_lend (k : Fin 2) (s : Fin 5) (c n : Dev nD) (hn : n = mate k s c) (l : List (GSem nD τ sig × ℕ))
    {o : Fin 2 → ℕ} (ho : o = at0 (base k (s.val + 1) c))
    {inb inb' : ∀ a, o a + (half s).size a ≤ S2048x512.size a}
    {sS sR : DmaSem sig} (hS : sS = dsem (2, k, s)) (hR : sR = dsem (3, k, s)) {hu hu'} {hsc} {hsrc} {hdst} {hsem}
    {α : Type} {p : PUnit → Prog (TpuEff nD τ sig (Elt F) Λ₀ .tc) α} {Q : α → sProp 𝕄} :
    iprop(records x K ∗ held x k (s.val + 1) c ∗ work (mate k s c) (region k (s.val + 1) c) fullShare (part x k s.val (mate k s c))
        ∗ lendTodo (F := F) k s c ∗ owing c (lendDue c k s :: l))
      ⊢ iprop(((lendMid x k s c ∗ owing c l) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (wM.slice (Rect.unit (s := S2048x512) o (half s).size inb) hu)
                (.remote (Dev.tc n : Thread nD τ) (wM.slice (Rect.unit (s := S2048x512) o (half s).size inb') hu') (.dma sS) hsc)
                (.dma sR) hsrc hdst hsem) p) Q) := by
  subst hn ho hS hR
  unfold lendTodo lendMid owing held
  rw [(steps_left s).1, (steps_left s).2, lend_split c (region k (s.val + 1) c) (4 - s.val) (total x)]
  iintro ⟨#HR, ⟨Hlend, Hkeep⟩, Hthere, ⟨Ht0, Ht1, Hat, Hc⟩, ⟨%W, HO⟩⟩ Hk
  ihave HA := (records_at x K c (some (2, k, s))) $$ HR
  icases HA with ⟨#HI0, #Hr0⟩
  ihave HB := (records_at x K (mate k s c) (some (3, k, s))) $$ HR
  icases HB with ⟨#HI1, #Hr1⟩
  iapply (Rounds.wp_send_pointsTo 𝒱₀ ER (sched x) (c : Thread nD τ) none (c' := (mate k s c : Thread nD τ))
      (src := keepM k s c) (dst := keepM k s c) (q := lent (4 - s.val)) (fs := total x)
      (κ₁ := K (c, some (2, k, s))) (κ₂ := K (mate k s c, some (3, k, s))) (r₁ := 0) (r₂ := 0) (d₁ := 0) (d₂ := 0)
      (fd := part x k s.val (mate k s c))
      (mem_duties_role x c _) (mem_duties_role x (mate k s c) _) () () (cr s) (keep_credit k s c)
      (amount_role x c (2, k, s) 0) (amount_role x (mate k s c) (3, k, s) 0) (due l) rfl (W := W)
      (by rw [payload_role, keep_set]; exact BI.Entails.refl _)
      (by
        rw [payload_role, keep_set]
        show _ ⊢ work (mate k s c) (region k (s.val + 1) (mate k s (mate k s c))) fullShare (total x)
        rw [mate_mate]
        exact Entails.of_eq (pointsTo_congr fun i hi => copy_keep k s c _ _ hi))) $$ [Hlend Hthere HO Ht0 Ht1]
  · isplitr; · iexact HI0
    isplitr; · iexact HI1
    isplitl [Hlend]; · rw [keep_set]; unfold work; iexact Hlend
    isplitl [Hthere]; · rw [keep_set]; unfold work; iexact Hthere
    isplitl [HO]; · iexact HO
    isplitl [Ht0]; · iexact Ht0
    isplitr; · iexact Hr0
    isplitl [Ht1]; · iexact Ht1
    iexact Hr1
  iintro ⟨Hc0, HO⟩
  iapply Hk
  isplitr [HO]
  · isplitl [Hkeep]; · iexact Hkeep
    isplitl [Hat]; · iexact Hat
    isplitl [Hc]; · iexact Hc
    iexact Hc0
  · iexists W; iexact HO

/-- The arrival of the partner's finished rows. -/
theorem wp_gather (k : Fin 2) (s : Fin 5) (c : Dev nD) (l : List (GSem nD τ sig × ℕ)) (hl : Above (7 + (4 - s.val)) l)
    {sp sp' : Space} {S S' : Shape} {src : Memref sig .tc sp S .bf16} {dst : Memref sig .tc sp' S' .bf16} {hsrc} {hdst}
    (hd : dst.view.dmaCredit = cr s) {sR : DmaSem sig} (hR : sR = dsem (3, k, s))
    {α : Type} {p : PUnit → Prog (TpuEff nD τ sig (Elt F) Λ₀ .tc) α} {Q : α → sProp 𝕄} :
    iprop(records x K ∗ levAts L lv ∗ lendMid x k s c ∗ owing c l)
      ⊢ iprop(((held x k s.val c ∗ lendDone x k s c ∗ owing c l)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sR src dst hsrc hdst) p) Q) := by
  subst hR
  unfold lendMid lendDone held
  iintro ⟨#HR, #Hlev, ⟨Hkeep, Hat, Hc, Hc0⟩, HO⟩ Hk
  iapply (wp_wait_role x K (3, k, s) c l hd hl (wpE_waitDma2_eq 𝒱₀ (c : Thread nD τ) none Set.univ)) $$ [HO Hc Hat]
  · isplitr; · iexact HR
    isplitr; · iexact Hlev
    isplitl [HO]; · iexact HO
    isplitl [Hc] <;> iassumption
  iintro ⟨HO, Hz, Hp⟩
  ihave Hp := (show rolePay x (3, k, s) c ⊢ work c (region k (s.val + 1) (mate k s c)) fullShare (total x) from BI.Entails.refl _) $$ Hp
  ihave Hq := (Entails.of_eq (lend_all c (region k (s.val + 1) (mate k s c)) (total x) (5 - s.val))) $$ Hp
  icases Hq with ⟨Hnew, Hlent⟩
  iapply Hk
  isplitl [Hkeep Hnew]
  · iapply (rows_split k s c (rem (5 - s.val)) (total x)).2
    isplitl [Hkeep] <;> iassumption
  isplitr [HO]
  · isplitl [Hlent]; · iexact Hlent
    isplitl [Hz] <;> iassumption
  · iexact HO

/-- Nothing is lent at first. -/
theorem lentAll_last (k : Fin 2) (c : Dev nD) : (emp : sProp 𝕄) ⊢ lentAll x k 5 c := by
  unfold lentAll
  rw [show 5 - 5 = 0 from rfl, Finset.range_zero, bigSep_empty]
  exact BI.Entails.refl _

/-- The shares lent of the rows before a step: those of the rows kept, the one that came back from the step's own
    transfer, and those of the rows that arrived. -/
theorem lentAll_step (k : Fin 2) (s : Fin 5) (c : Dev nD) :
    iprop(lentAll x k (s.val + 1) c ∗ rolePay x (2, k, s) c
        ∗ (bigSep (Finset.range (5 - s.val)) fun j => work c (region k (s.val + 1) (mate k s c)) (lent j) (total x)))
      ⊢ (lentAll x k s.val c : sProp 𝕄) := by
  have hu : (fun j => work c (region k s.val c) (lent j) (total x) : ℕ → sProp 𝕄)
      = fun j => iprop(work c (region k (s.val + 1) c) (lent j) (total x) ∗ work c (region k (s.val + 1) (mate k s c)) (lent j) (total x)) :=
    funext fun j => by rw [region_split k s c, work_union c (region_disjoint k s c)]
  unfold lentAll
  rw [hu, bigSep_sep', (steps_left s).1, (steps_left s).2]
  iintro ⟨H1, H2, H3⟩
  isplitr [H3]
  · rw [bigSep_range_succ]
    isplitl [H2]
    · iapply (show rolePay x (2, k, s) c ⊢ work c (region k (s.val + 1) c) (lent (4 - s.val)) (total x) from BI.Entails.refl _); iexact H2
    · iexact H1
  · iexact H3

/-- With all shares back the rows are the device's own again. -/
theorem held_all (k : Fin 2) (c : Dev nD) :
    iprop(held x k 0 c ∗ lentAll x k 0 c) ⊢ (work c (region k 0 c) fullShare (total x) : sProp 𝕄) :=
  Entails.of_eq (lend_all c (region k 0 c) (total x) 5).symm

end

end Cert.CubeProof
-- ==== Proof.Turn.lean ====
/-
# A whole step of both groups

The kernel starts the transfers of the two groups together and then takes up their arrivals. Each rule here runs the
operations of one step of both groups.
-/
module

public import proofs.«01_k».proof.Proof.Gather

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device has left of a step of both directions when the step of the gathering is over. -/
def turned (x : Dev nD → Vec F S2048x512 .f32) (k : Fin 2) (s : Fin 5) (c : Dev nD) : sProp 𝕄 :=
  iprop(slotAny (F := F) k s c ∗ semVal (cell c (some (1, k, s))) 0 ∗ credit (0, k, s) c ∗ lendDone x k s c)

/-- What is left of a step when the transfer of the reduction has left, -/
def outLeft (x : Dev nD → Vec F S2048x512 .f32) (k : Fin 2) (s : Fin 5) (c : Dev nD) : sProp 𝕄 :=
  iprop(slotAny (F := F) k s c ∗ semVal (cell c (some (0, k, s))) 0 ∗ semVal (cell c (some (1, k, s))) 0 ∗ lendDone x k s c)

/-- and when that of the gathering has left too: the slot, and all four cells done. -/
def over (k : Fin 2) (s : Fin 5) (c : Dev nD) : sProp 𝕄 :=
  iprop(slotAny (F := F) k s c ∗ semVal (cell c (some (0, k, s))) 0 ∗ semVal (cell c (some (1, k, s))) 0
    ∗ semVal (cell c (some (2, k, s))) 0 ∗ semVal (cell c (some (3, k, s))) 0)

section
variable (x : Dev nD → Vec F S2048x512 .f32) (K : Dev nD × Option Role → ℕ)

/-- A step of the reduction. -/
theorem wp_reduce (s : Fin 5) (c n₀ n₁ : Dev nD) (hn₀ : n₀ = mate 0 s c) (hn₁ : n₁ = mate 1 s c)
    (l : List (GSem nD τ sig × ℕ)) (hl : Above (2 + s.val) l)
    {o₀ o₁ k₀ k₁ u₀ u₁ : Fin 2 → ℕ}
    (ho₀ : o₀ = at0 (base 0 (s.val + 1) (mate 0 s c))) (ho₁ : o₁ = at0 (base 1 (s.val + 1) (mate 1 s c)))
    (hk₀ : k₀ = at0 (base 0 (s.val + 1) c)) (hk₁ : k₁ = at0 (base 1 (s.val + 1) c))
    (hu₀ : u₀ = at0 (slot 0 s)) (hu₁ : u₁ = at0 (slot 1 s))
    {io₀ : ∀ a, o₀ a + (half s).size a ≤ S2048x512.size a} {io₁ : ∀ a, o₁ a + (half s).size a ≤ S2048x512.size a}
    {ik₀ : ∀ a, k₀ a + (half s).size a ≤ S2048x512.size a} {ik₁ : ∀ a, k₁ a + (half s).size a ≤ S2048x512.size a}
    {iu₀ : ∀ a, u₀ a + (half s).size a ≤ S1984x512.size a} {iu₁ : ∀ a, u₁ a + (half s).size a ≤ S1984x512.size a}
    {sS₀ sS₁ sR₀ sR₁ : DmaSem sig} (hS₀ : sS₀ = dsem (0, 0, s)) (hS₁ : sS₁ = dsem (0, 1, s))
    (hR₀ : sR₀ = dsem (1, 0, s)) (hR₁ : sR₁ = dsem (1, 1, s))
    {pay₀ pay₁ : FVec F (half s) .bf16 → FVec F (half s) .bf16 → FVec F (half s) .bf16}
    (hp₀ : pay₀ = fun v w => addf v w) (hp₁ : pay₁ = fun v w => addf v w)
    {q₀ q₁ q₀' q₁' q₀'' q₁''} {hsc₀ hsc₁} {hsrc₀ hsrc₁} {hdst₀ hdst₁} {hsem₀ hsem₁}
    {sp₀ sp₁ : Space} {src₀ : Memref sig .tc sp₀ (half s) .bf16} {src₁ : Memref sig .tc sp₁ (half s) .bf16}
    {hsrc₀' hsrc₁'} {hdst₀' hdst₁'}
    {hl₀ hl₀' : wM.view.LoadsAt (Rect.unit (s := S2048x512) k₀ (half s).size ik₀).toLoadRect}
    {hl₁ hl₁' : wM.view.LoadsAt (Rect.unit (s := S2048x512) k₁ (half s).size ik₁).toLoadRect}
    {hr₀ : rM.view.LoadsAt (Rect.unit (s := S1984x512) u₀ (half s).size iu₀).toLoadRect}
    {hr₁ : rM.view.LoadsAt (Rect.unit (s := S1984x512) u₁ (half s).size iu₁).toLoadRect} {hx₀ hx₁ hm₀ hm₁}
    {α : Type} {p : PUnit → Prog (TpuEff nD τ sig (Elt F) Λ₀ .tc) α} {Q : α → sProp 𝕄} :
    iprop(records x K ∗ levAts L lv ∗ (rowsAt x 0 s.val c ∗ rowsAt x 1 s.val c)
        ∗ (outTodo (F := F) 0 s c ∗ outTodo (F := F) 1 s c) ∗ owing c (outDue c 0 s :: outDue c 1 s :: l))
      ⊢ iprop((((rowsAt x 0 (s.val + 1) c ∗ rowsAt x 1 (s.val + 1) c) ∗ (outDone x 0 s c ∗ outDone x 1 s c) ∗ owing c l)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (wM.slice (Rect.unit (s := S2048x512) o₀ (half s).size io₀) q₀)
                (.remote (Dev.tc n₀ : Thread nD τ) (rM.slice (Rect.unit (s := S1984x512) u₀ (half s).size iu₀) q₀') (.dma sS₀) hsc₀)
                (.dma sR₀) hsrc₀ hdst₀ hsem₀) fun _ =>
              .op (.enqueueDma (wM.slice (Rect.unit (s := S2048x512) o₁ (half s).size io₁) q₁)
                (.remote (Dev.tc n₁ : Thread nD τ) (rM.slice (Rect.unit (s := S1984x512) u₁ (half s).size iu₁) q₁') (.dma sS₁) hsc₁)
                (.dma sR₁) hsrc₁ hdst₁ hsem₁) fun _ =>
              .op (.waitDma2 sR₀ src₀ (rM.slice (Rect.unit (s := S1984x512) u₀ (half s).size iu₀) q₀'') hsrc₀' hdst₀') fun _ =>
                .op (.load (e := .bf16) wM (Rect.unit (s := S2048x512) k₀ (half s).size ik₀).toLoadRect hl₀) fun (v : FVec F (half s) .bf16) =>
                .op (.load (e := .bf16) rM (Rect.unit (s := S1984x512) u₀ (half s).size iu₀).toLoadRect hr₀) fun (v' : FVec F (half s) .bf16) =>
                .op (.load (e := .bf16) wM (Rect.unit (s := S2048x512) k₀ (half s).size ik₀).toLoadRect hl₀') fun _ =>
                .op (.store wM (Rect.unit (s := S2048x512) k₀ (half s).size ik₀) (pay₀ v v') Finset.univ hx₀ hm₀) fun _ =>
              .op (.waitDma2 sR₁ src₁ (rM.slice (Rect.unit (s := S1984x512) u₁ (half s).size iu₁) q₁'') hsrc₁' hdst₁') fun _ =>
                .op (.load (e := .bf16) wM (Rect.unit (s := S2048x512) k₁ (half s).size ik₁).toLoadRect hl₁) fun (v : FVec F (half s) .bf16) =>
                .op (.load (e := .bf16) rM (Rect.unit (s := S1984x512) u₁ (half s).size iu₁).toLoadRect hr₁) fun (v' : FVec F (half s) .bf16) =>
                .op (.load (e := .bf16) wM (Rect.unit (s := S2048x512) k₁ (half s).size ik₁).toLoadRect hl₁') fun _ =>
                .op (.store wM (Rect.unit (s := S2048x512) k₁ (half s).size ik₁) (pay₁ v v') Finset.univ hx₁ hm₁) p) Q) := by
  iintro ⟨#HR, #Hlev, ⟨H0, H1⟩, ⟨T0, T1⟩, HO⟩ Hk
  iapply (wp_out x K 0 s c n₀ hn₀ (outDue c 1 s :: l) ho₀ hu₀ hS₀ hR₀) $$ [H0 T0 HO]
  · isplitr; · iexact HR
    isplitl [H0]; · iexact H0
    isplitl [T0] <;> iassumption
  iintro ⟨M0, HO⟩
  iapply (wp_out x K 1 s c n₁ hn₁ l ho₁ hu₁ hS₁ hR₁) $$ [H1 T1 HO]
  · isplitr; · iexact HR
    isplitl [H1]; · iexact H1
    isplitl [T1] <;> iassumption
  iintro ⟨M1, HO⟩
  iapply (wp_arrive x K 0 s c l hl hk₀ hu₀ hR₀ hp₀) $$ [M0 HO]
  · isplitr; · iexact HR
    isplitr; · iexact Hlev
    isplitl [M0] <;> iassumption
  iintro ⟨H0, D0, HO⟩
  iapply (wp_arrive x K 1 s c l hl hk₁ hu₁ hR₁ hp₁) $$ [M1 HO]
  · isplitr; · iexact HR
    isplitr; · iexact Hlev
    isplitl [M1] <;> iassumption
  iintro ⟨H1, D1, HO⟩
  iapply Hk
  isplitl [H0 H1]; · isplitl [H0] <;> iassumption
  isplitl [D0 D1]; · isplitl [D0] <;> iassumption
  iexact HO

/-- A step of the gathering. -/
theorem wp_collect (s : Fin 5) (c n₀ n₁ : Dev nD) (hn₀ : n₀ = mate 0 s c) (hn₁ : n₁ = mate 1 s c)
    (l : List (GSem nD τ sig × ℕ)) (hl : Above (7 + (4 - s.val)) l)
    {o₀ o₁ : Fin 2 → ℕ} (ho₀ : o₀ = at0 (base 0 (s.val + 1) c)) (ho₁ : o₁ = at0 (base 1 (s.val + 1) c))
    {io₀ io₀' : ∀ a, o₀ a + (half s).size a ≤ S2048x512.size a} {io₁ io₁' : ∀ a, o₁ a + (half s).size a ≤ S2048x512.size a}
    {sS₀ sS₁ sR₀ sR₁ : DmaSem sig} (hS₀ : sS₀ = dsem (2, 0, s)) (hS₁ : sS₁ = dsem (2, 1, s))
    (hR₀ : sR₀ = dsem (3, 0, s)) (hR₁ : sR₁ = dsem (3, 1, s))
    {q₀ q₁ q₀' q₁'} {hsc₀ hsc₁} {hsrc₀ hsrc₁} {hdst₀ hdst₁} {hsem₀ hsem₁}
    {sp₀ sp₁ sp₀' sp₁' : Space} {S₀ S₁ S₀' S₁' : Shape}
    {src₀ : Memref sig .tc sp₀ S₀ .bf16} {src₁ : Memref sig .tc sp₁ S₁ .bf16}
    {dst₀ : Memref sig .tc sp₀' S₀' .bf16} {dst₁ : Memref sig .tc sp₁' S₁' .bf16}
    (hd₀ : dst₀.view.dmaCredit = cr s) (hd₁ : dst₁.view.dmaCredit = cr s) {hsrc₀' hsrc₁'} {hdst₀' hdst₁'}
    {α : Type} {p : PUnit → Prog (TpuEff nD τ sig (Elt F) Λ₀ .tc) α} {Q : α → sProp 𝕄} :
    iprop(records x K ∗ levAts L lv ∗ (held x 0 (s.val + 1) c ∗ held x 1 (s.val + 1) c)
        ∗ (outDone x 0 s c ∗ outDone x 1 s c) ∗ (lendTodo (F := F) 0 s c ∗ lendTodo (F := F) 1 s c)
        ∗ owing c (lendDue c 0 s :: lendDue c 1 s :: l))
      ⊢ iprop((((held x 0 s.val c ∗ held x 1 s.val c) ∗ (turned x 0 s c ∗ turned x 1 s c) ∗ owing c l)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (wM.slice (Rect.unit (s := S2048x512) o₀ (half s).size io₀) q₀)
                (.remote (Dev.tc n₀ : Thread nD τ) (wM.slice (Rect.unit (s := S2048x512) o₀ (half s).size io₀') q₀') (.dma sS₀) hsc₀)
                (.dma sR₀) hsrc₀ hdst₀ hsem₀) fun _ =>
              .op (.enqueueDma (wM.slice (Rect.unit (s := S2048x512) o₁ (half s).size io₁) q₁)
                (.remote (Dev.tc n₁ : Thread nD τ) (wM.slice (Rect.unit (s := S2048x512) o₁ (half s).size io₁') q₁') (.dma sS₁) hsc₁)
                (.dma sR₁) hsrc₁ hdst₁ hsem₁) fun _ =>
              .op (.waitDma2 sR₀ src₀ dst₀ hsrc₀' hdst₀') fun _ => .op (.waitDma2 sR₁ src₁ dst₁ hsrc₁' hdst₁') p) Q) := by
  iintro ⟨#HR, #Hlev, ⟨H0, H1⟩, ⟨D0, D1⟩, ⟨T0, T1⟩, HO⟩ Hk
  unfold outDone turned
  icases D0 with ⟨A0, B0, C0, E0⟩
  icases D1 with ⟨A1, B1, C1, E1⟩
  iapply (wp_lend x K 0 s c n₀ hn₀ (lendDue c 1 s :: l) ho₀ hS₀ hR₀) $$ [H0 B0 T0 HO]
  · isplitr; · iexact HR
    isplitl [H0]; · iexact H0
    isplitl [B0]; · iexact B0
    isplitl [T0] <;> iassumption
  iintro ⟨M0, HO⟩
  iapply (wp_lend x K 1 s c n₁ hn₁ l ho₁ hS₁ hR₁) $$ [H1 B1 T1 HO]
  · isplitr; · iexact HR
    isplitl [H1]; · iexact H1
    isplitl [B1]; · iexact B1
    isplitl [T1] <;> iassumption
  iintro ⟨M1, HO⟩
  iapply (wp_gather x K 0 s c l hl hd₀ hR₀) $$ [M0 HO]
  · isplitr; · iexact HR
    isplitr; · iexact Hlev
    isplitl [M0] <;> iassumption
  iintro ⟨H0, D0, HO⟩
  iapply (wp_gather x K 1 s c l hl hd₁ hR₁) $$ [M1 HO]
  · isplitr; · iexact HR
    isplitr; · iexact Hlev
    isplitl [M1] <;> iassumption
  iintro ⟨H1, D1, HO⟩
  iapply Hk
  isplitl [H0 H1]; · isplitl [H0] <;> iassumption
  isplitr [HO]
  · isplitl [A0 C0 E0 D0]
    · isplitl [A0]; · iexact A0
      isplitl [C0]; · iexact C0
      isplitl [E0] <;> iassumption
    · isplitl [A1]; · iexact A1
      isplitl [C1]; · iexact C1
      isplitl [E1] <;> iassumption
  · iexact HO

/-- The wait for a device's own transfer of the reduction to have left. -/
theorem wp_out_left (k : Fin 2) (s : Fin 5) (c : Dev nD)
    {sp sp' : Space} {S S' : Shape} {src : Memref sig .tc sp S .bf16} {dst : Memref sig .tc sp' S' .bf16} {hsrc} {hdst}
    (hd : dst.view.dmaCredit = cr s) {sS : DmaSem sig} (hS : sS = dsem (0, k, s))
    {α : Type} {p : PUnit → Prog (TpuEff nD τ sig (Elt F) Λ₀ .tc) α} {Q : α → sProp 𝕄} :
    iprop(records x K ∗ levAts L lv ∗ turned x k s c ∗ before c (some (0, k, s)) ∗ owing c [])
      ⊢ iprop(((outLeft x k s c ∗ owing c [])
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sS src dst hsrc hdst) p) Q) := by
  subst hS
  unfold turned outLeft
  iintro ⟨#HR, #Hlev, ⟨H1, H2, H3, H4⟩, Hat, HO⟩ Hk
  iapply (wp_wait_role x K (0, k, s) c [] hd (above_nil _) (wpE_waitDma2_eq 𝒱₀ (c : Thread nD τ) none Set.univ)) $$ [HO H3 Hat]
  · isplitr; · iexact HR
    isplitr; · iexact Hlev
    isplitl [HO]; · iexact HO
    isplitl [H3] <;> iassumption
  iintro ⟨HO, Hz, -⟩
  iapply Hk
  isplitr [HO]
  · isplitl [H1]; · iexact H1
    isplitl [Hz]; · iexact Hz
    isplitl [H2] <;> iassumption
  · iexact HO

/-- The wait for a device's own transfer of the gathering to have left: its rows join those of the later steps. -/
theorem wp_lend_left (k : Fin 2) (s : Fin 5) (c : Dev nD)
    {sp sp' : Space} {S S' : Shape} {src : Memref sig .tc sp S .bf16} {dst : Memref sig .tc sp' S' .bf16} {hsrc} {hdst}
    (hd : dst.view.dmaCredit = cr s) {sS : DmaSem sig} (hS : sS = dsem (2, k, s))
    {α : Type} {p : PUnit → Prog (TpuEff nD τ sig (Elt F) Λ₀ .tc) α} {Q : α → sProp 𝕄} :
    iprop(records x K ∗ levAts L lv ∗ outLeft x k s c ∗ lentAll x k (s.val + 1) c ∗ before c (some (2, k, s)) ∗ owing c [])
      ⊢ iprop(((over (F := F) k s c ∗ lentAll x k s.val c ∗ owing c [])
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sS src dst hsrc hdst) p) Q) := by
  subst hS
  unfold outLeft over lendDone
  iintro ⟨#HR, #Hlev, ⟨H1, H2, H3, ⟨H4, H5, H6⟩⟩, Hl, Hat, HO⟩ Hk
  iapply (wp_wait_role x K (2, k, s) c [] hd (above_nil _) (wpE_waitDma2_eq 𝒱₀ (c : Thread nD τ) none Set.univ)) $$ [HO H6 Hat]
  · isplitr; · iexact HR
    isplitr; · iexact Hlev
    isplitl [HO]; · iexact HO
    isplitl [H6] <;> iassumption
  iintro ⟨HO, Hz, Hp⟩
  iapply Hk
  isplitl [H1 H2 H3 Hz H5]
  · isplitl [H1]; · iexact H1
    isplitl [H2]; · iexact H2
    isplitl [H3]; · iexact H3
    isplitl [Hz] <;> iassumption
  isplitr [HO]
  · iapply (lentAll_step x k s c)
    isplitl [Hl]; · iexact Hl
    isplitl [Hp] <;> iassumption
  · iexact HO

end

end Cert.CubeProof
-- ==== Proof.Entry.lean ====
/-
# The entry and the exit

At entry a device hands the ten slots of its landing buffer to its partners, each slot to the partner that fills it,
and gets theirs; at exit it has its own back.
-/
module

public import proofs.«01_k».proof.Proof.Turn

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs over the dimensions, the steps and the groups -/

/-- A run over the five steps, or the five dimensions, term by term. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A run over both groups' steps. -/
theorem both (Φ : Fin 2 × Fin 5 → sProp 𝕄) :
    bigSep Finset.univ Φ = iprop((bigSep Finset.univ fun s => Φ (0, s)) ∗ bigSep Finset.univ fun s => Φ (1, s)) := by
  rw [bigSep_univ_prod, bigSep_fin_two]; rfl

/-- The steps of group `k` are the dimensions in another order. -/
def stepEquiv (k : Fin 2) : Fin 5 ≃ Fin 5 := ⟨dim k, stepOf k, stepOf_dim k, dim_stepOf k⟩

/-- A run over the dimensions is a run over a group's steps. -/
theorem by_step (k : Fin 2) (Φ : Fin 5 → sProp 𝕄) : bigSep Finset.univ Φ = bigSep Finset.univ fun s => Φ (dim k s) :=
  bigSep_univ_equiv (stepEquiv k) Φ

/-! ## The landing buffer's slots -/

/-- The landing buffer is its ten slots, -/
theorem slots_split (c : Dev nD) (f : S1984x512.Idx → Elt F .bf16) :
    recv c Finset.univ f ⊢ (bigSep Finset.univ fun p : Fin 2 × Fin 5 => slotAny (F := F) p.1 p.2 c : sProp 𝕄) := by
  have h : (recv c Finset.univ f : sProp 𝕄) = bigSep Finset.univ fun p : Fin 2 × Fin 5 => recv c (landing p.1 p.2) f := by
    unfold recv
    rw [← landing_cover]
    exact pointsTo_biUnion Finset.univ _ fun p _ p' _ hp => landing_disjoint p p' hp
  rw [h]
  refine bigSep_mono fun p _ => ?_
  show recv c (landing p.1 p.2) f ⊢ slotAny p.1 p.2 c
  unfold slotAny
  iintro H; iexists f; iexact H

/-- and the ten slots are the landing buffer. -/
theorem slots_join (c : Dev nD) :
    (bigSep Finset.univ fun p : Fin 2 × Fin 5 => slotAny (F := F) p.1 p.2 c : sProp 𝕄) ⊢ iprop(∃ f, recv (F := F) c Finset.univ f) := by
  have : Nonempty (S1984x512.Idx → Elt F .bf16) := ⟨fun _ => FloatOps.ofBits .bf16 0⟩
  unfold slotAny
  iintro H
  ihave H' := (BI.bigSep_exists_pi Finset.univ (fun (p : Fin 2 × Fin 5) (f : S1984x512.Idx → Elt F .bf16) => (recv c (landing p.1 p.2) f : sProp 𝕄))) $$ H
  icases H' with ⟨%fs, H⟩
  unfold recv
  ihave H' := (pointsTo_biUnion_join (ℓ := (c : Thread nD τ).loc cc0_scratch1) (q := fullShare) (Val := Elt F) (Ix := Unit) (Name := ℕ) (U := UU) (Lvl := ℕ)
    Finset.univ (fun p : Fin 2 × Fin 5 => landing p.1 p.2) fs (fs (0, 0)) fun p _ p' _ hp => landing_disjoint p p' hp) $$ H
  icases H' with ⟨%g, -, H⟩
  iexists g
  rw [landing_cover]
  iexact H

/-- What a device hands its partners at entry. -/
theorem slots_give (c : Dev nD) :
    (bigSep Finset.univ fun p : Fin 2 × Fin 5 => slotAny (F := F) p.1 p.2 c : sProp 𝕄) ⊢ bigSep Finset.univ fun d => barPay (F := F) d (peer d c) := by
  have h : ∀ (k : Fin 2), (bigSep Finset.univ fun s => slotAny (F := F) k s c : sProp 𝕄)
      = bigSep Finset.univ fun d => slotAny (F := F) k (stepOf k d) (peer d (peer d c)) := fun k => by
    rw [by_step k fun d => slotAny k (stepOf k d) (peer d (peer d c))]
    exact bigSep_congr fun s _ => by rw [stepOf_dim, peer_peer]
  rw [both]
  show iprop((bigSep Finset.univ fun s => slotAny (F := F) 0 s c) ∗ bigSep Finset.univ fun s => slotAny (F := F) 1 s c) ⊢ _
  rw [h 0, h 1, ← bigSep_sep']
  exact BI.Entails.refl _

/-- What it gets from them. -/
theorem slots_get (c : Dev nD) :
    (bigSep Finset.univ fun d => barPay (F := F) d c : sProp 𝕄) ⊢ bigSep Finset.univ fun p : Fin 2 × Fin 5 => slotAny (F := F) p.1 p.2 (mate p.1 p.2 c) := by
  have h : ∀ (k : Fin 2), (bigSep Finset.univ fun d => slotAny (F := F) k (stepOf k d) (peer d c) : sProp 𝕄)
      = bigSep Finset.univ fun s => slotAny (F := F) k s (mate k s c) := fun k => by
    rw [by_step k]
    exact bigSep_congr fun s _ => by rw [stepOf_dim]
  rw [both]
  show _ ⊢ iprop((bigSep Finset.univ fun s => slotAny (F := F) 0 s (mate 0 s c)) ∗ bigSep Finset.univ fun s => slotAny (F := F) 1 s (mate 1 s c))
  rw [← h 0, ← h 1, ← bigSep_sep']
  exact BI.Entails.refl _

/-! ## The work buffer's halves -/

/-- The work buffer, just filled, is the two groups' rows before their first step. -/
theorem rows_first (x : Dev nD → Vec F S2048x512 .f32) (c : Dev nD) :
    (work c Finset.univ fullShare (k0_pay1 (x c)) : sProp 𝕄) ⊢ iprop(rowsAt x 0 0 c ∗ rowsAt x 1 0 c) := by
  rw [region_zero c]
  exact Entails.of_eq (work_union c (region_zero_disjoint c c) fullShare _)

/-- The two groups' finished rows are the work buffer. -/
theorem rows_last (x : Dev nD → Vec F S2048x512 .f32) (c : Dev nD) :
    iprop((held x 0 0 c ∗ held x 1 0 c) ∗ (lentAll x 0 0 c ∗ lentAll x 1 0 c)) ⊢ (work c Finset.univ fullShare (total x) : sProp 𝕄) := by
  rw [region_zero c, work_union c (region_zero_disjoint c c)]
  iintro ⟨⟨H0, H1⟩, ⟨L0, L1⟩⟩
  isplitl [H0 L0]
  · iapply (held_all x 0 c); isplitl [H0] <;> iassumption
  · iapply (held_all x 1 c); isplitl [H1] <;> iassumption

/-! ## A device's stock -/

/-- What a device holds at entry for the step `s` of group `k`, in both directions. -/
def stock (k : Fin 2) (s : Fin 5) (c : Dev nD) : sProp 𝕄 :=
  iprop((token (F := F) (0, k, s) c ∗ token (1, k, s) (mate k s c) ∗ token (2, k, s) c ∗ token (3, k, s) (mate k s c))
    ∗ (before c (some (0, k, s)) ∗ before c (some (1, k, s)) ∗ before c (some (2, k, s)) ∗ before c (some (3, k, s)))
    ∗ (credit (1, k, s) c ∗ credit (3, k, s) c))

/-- The same with the partner's slot, sorted by when it is used. -/
def ready (k : Fin 2) (s : Fin 5) (c : Dev nD) : sProp 𝕄 :=
  iprop(outTodo (F := F) k s c ∗ lendTodo k s c ∗ before c (some (0, k, s)) ∗ before c (some (2, k, s)))

/-- A step's stock and the partner's slot make the device ready for it. -/
theorem ready_intro (k : Fin 2) (s : Fin 5) (c : Dev nD) :
    iprop(stock k s c ∗ slotAny (F := F) k s (mate k s c)) ⊢ (ready k s c : sProp 𝕄) := by
  unfold stock ready outTodo lendTodo
  iintro ⟨⟨⟨T0, T1, T2, T3⟩, ⟨B0, B1, B2, B3⟩, ⟨C1, C3⟩⟩, HS⟩
  isplitl [HS T0 T1 B1 C1]
  · isplitl [HS]; · iexact HS
    isplitl [T0]; · iexact T0
    isplitl [T1]; · iexact T1
    isplitl [B1] <;> iassumption
  isplitl [T2 T3 B3 C3]
  · isplitl [T2]; · iexact T2
    isplitl [T3]; · iexact T3
    isplitl [B3] <;> iassumption
  isplitl [B0] <;> iassumption

/-- All steps are ready when the partners' slots have come. -/
theorem ready_all (c : Dev nD) :
    iprop((bigSep Finset.univ fun p : Fin 2 × Fin 5 => stock p.1 p.2 c) ∗ bigSep Finset.univ fun d => barPay (F := F) d c)
      ⊢ (iprop((bigSep Finset.univ fun s => ready 0 s c) ∗ bigSep Finset.univ fun s => ready 1 s c) : sProp 𝕄) := by
  have h : iprop((bigSep Finset.univ fun p : Fin 2 × Fin 5 => stock p.1 p.2 c) ∗ bigSep Finset.univ fun p : Fin 2 × Fin 5 => slotAny (F := F) p.1 p.2 (mate p.1 p.2 c))
      ⊢ (bigSep Finset.univ fun p : Fin 2 × Fin 5 => ready p.1 p.2 c : sProp 𝕄) := by
    rw [← bigSep_sep']
    exact bigSep_mono fun p _ => ready_intro p.1 p.2 c
  rw [both] at h
  exact (sep_mono_right (slots_get c)).trans (by rw [both (fun p => ready p.1 p.2 c)] at h; rw [both]; exact h)

/-! ## The operations of the entry -/

section
variable (x : Dev nD → Vec F S2048x512 .f32) (K : Dev nD × Option Role → ℕ)

/-- A device's signal across dimension `d`. -/
theorem wp_tell (d : Fin 5) (c n : Dev nD) (hn : n = peer d c) (l : List (GSem nD τ sig × ℕ)) {b : Sem sig} (hb : b = barS)
    {α : Type} {p : PUnit → Prog (TpuEff nD τ sig (Elt F) Λ₀ .tc) α} {Q : α → sProp 𝕄} :
    iprop(records x K ∗ dutyTok ER (cell (peer d c) none) 0 d ∗ barPay (F := F) d (peer d c) ∗ owing c (barDue c d :: l))
      ⊢ iprop((owing c l -∗ wp frame (wpE (defs₀ (F := F)) 𝒱₀ (c : Thread nD τ) none) Set.univ (p ⟨⟩) Q)
          -∗ wp frame (wpE (defs₀ (F := F)) 𝒱₀ (c : Thread nD τ) none) Set.univ
              (.op (.semSignal (n, .tc) b (1#32 : BitVec 32).toInt) p) Q) := by
  subst hn hb
  unfold owing
  iintro ⟨#HR, Ht, Hpay, ⟨%W, HO⟩⟩ Hk
  ihave HA := (records_at x K (peer d c) none) $$ HR
  icases HA with ⟨#HI, #Hr⟩
  iapply (Rounds.wp_signal 𝒱₀ ER (sched x) (c : Thread nD τ) none (dst := (peer d c : Thread nD τ)) (κ := K (peer d c, none)) (d := d) (r := 0)
      (Finset.mem_univ _) ((amount_bar x (peer d c) d).trans (by decide)) () (due l) rfl (W := W)) $$ [HO Ht Hpay]
  · isplitr; · iexact HI
    isplitl [HO]; · iexact HO
    isplitl [Ht]; · iexact Ht
    isplitl [Hpay]; · rw [payload_bar]; iexact Hpay
    iexact Hr
  iintro HO
  iapply Hk
  iexists W; iexact HO

/-- The wait for all five partners' signals. -/
theorem wp_meet (c : Dev nD) (l : List (GSem nD τ sig × ℕ)) (hl : Above 1 l) {b : Sem sig} (hb : b = barS)
    {α : Type} {p : PUnit → Prog (TpuEff nD τ sig (Elt F) Λ₀ .tc) α} {Q : α → sProp 𝕄} :
    iprop(records x K ∗ levAts L lv ∗ before c none ∗ cred (tallyAt (cell c none) () 5) ∗ owing c l)
      ⊢ iprop(((semVal (cell c none) 0 ∗ (bigSep Finset.univ fun d => barPay (F := F) d c) ∗ owing c l)
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait b (5#32 : BitVec 32).toInt) p) Q) := by
  subst hb
  unfold owing
  iintro ⟨#HR, #Hlev, Hat, Hc, ⟨%W, HO⟩⟩ Hk
  ihave HA := (records_at x K c none) $$ HR
  icases HA with ⟨#HI, -⟩
  iapply (Rounds.wp_wait_rest_token 𝒱₀ ER (sched x) (c : Thread nD τ) none (κ := K (c, none))
      (wpE_semWait_eq 𝒱₀ (c : Thread nD τ) none Set.univ) (Set.mem_univ _) () (O := due l) (W := W) (R := 0) (m := 0) (T := ∅)
      (by rw [expect_bar]; decide)) $$ [Hc HO Hat]
  · isplitr; · iexact HI
    isplitl [Hc]; · iexact Hc
    isplitl [HO]; · iexact HO
    isplitr
    · iapply (mayWait_due c _ l 1 (le_of_eq (lv_cell c none ())) hl.wait); iexact Hlev
    iexact Hat
  iintro ⟨HO, Hat, -, Hpay⟩
  ihave Hp := (Entails.of_eq (rest_bar x c)) $$ Hpay
  imod (Rounds.cell_close ER (sched x) (Set.mem_univ (K (c, none))) (fun h => h) (R := 0 + 1) (duties_later x (cell c none))) $$ [Hat] with Hz
  · isplitr; · iexact HI
    iexact Hat
  iapply Hk
  isplitl [Hz]; · iexact Hz
  isplitl [Hp]; · iexact Hp
  iexists _; iexact HO

end

end Cert.CubeProof
-- ==== Proof.Body.lean ====
/-
# The run of the kernel on one device

The operations of the kernel in their order: the entry, five steps of the reduction, five of the gathering, the store of
the result and the waits for the device's own transfers.
-/
module

public import proofs.«01_k».proof.Proof.Entry
public import Idealize.ShloMosaic.Lib.Pipeline.Value

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Small facts the steps are applied with -/

/-- The value a step stores is the plain sum. -/
theorem add_pay {s : Shape} (h : s.ShapeCasts s) :
    (fun v w : FVec F s .bf16 => shapeCast s (addf v w) h) = fun v w => addf v w :=
  funext fun v => funext fun w => Idealize.ShloMosaic.shapeCast_self _ h

/-- A transfer of a step's rows has the step's credit, wherever the rows start. -/
theorem rows_credit (s : Fin 5) {o : Fin 2 → ℕ} {inb : ∀ a, o a + (half s).size a ≤ S2048x512.size a} {q} :
    (wM.slice (Rect.unit (s := S2048x512) o (half s).size inb) q : Memref sig .tc .vmem (half s) .bf16).view.dmaCredit = cr s := by
  unfold cr
  fin_cases s <;> rfl

/-- After a step of the reduction the payments left are above it, -/
theorem outs_above (s : Fin 5) (c : Dev nD) : Above (2 + s.val) ((outDues c).drop (2 * (s.val + 1))) := by
  fin_cases s <;> repeat first | exact above_nil _ | refine above_cons (by decide) ?_
/-- so are those after a step of the gathering, -/
theorem lends_above (s : Fin 5) (c : Dev nD) : Above (7 + (4 - s.val)) ((lendDues c).drop (2 * (5 - s.val))) := by
  fin_cases s <;> repeat first | exact above_nil _ | refine above_cons (by decide) ?_
/-- and those after the entry. -/
theorem outs_above_bar (c : Dev nD) : Above 1 (outDues c) := by
  repeat first | exact above_nil _ | refine above_cons (by decide) ?_

theorem origin : (![0, 0] : Fin 2 → ℕ) = fun _ => 0 := funext fun a => by fin_cases a <;> rfl

/-- A device's result: the finished sums, widened. -/
def resultOf (x : Dev nD → Vec F S2048x512 .f32) : Vec F S2048x512 .f32 := k0_pay12 (total x)

/-- A run over the transfer cells, by their kinds. -/
theorem by_kind (Φ : Role → sProp 𝕄) :
    bigSep Finset.univ Φ = iprop((bigSep Finset.univ fun p => Φ (0, p)) ∗ (bigSep Finset.univ fun p => Φ (1, p))
      ∗ (bigSep Finset.univ fun p => Φ (2, p)) ∗ bigSep Finset.univ fun p => Φ (3, p)) := by
  rw [bigSep_univ_prod, bigSep_univ_eq_bigSepL [0, 1, 2, 3] (by decide) (by decide)]; rfl

/-- The ten steps over, the landing buffer is whole and all the transfers' cells are done. -/
theorem over_all (c : Dev nD) :
    (bigSep Finset.univ fun p : Fin 2 × Fin 5 => over (F := F) p.1 p.2 c : sProp 𝕄)
      ⊢ iprop((∃ f, recv (F := F) c Finset.univ f) ∗ bigSep Finset.univ fun r : Role => semVal (cell c (some r)) 0) := by
  unfold over
  rw [by_kind, bigSep_sep', bigSep_sep', bigSep_sep', bigSep_sep']
  iintro ⟨HS, HZ⟩
  isplitl [HS]
  · iapply (slots_join c); iexact HS
  · iexact HZ

section
variable (x : Dev nD → Vec F S2048x512 .f32) (K : Dev nD × Option Role → ℕ)

abbrev whole : Rect S2048x512 := Rect.unit (s := S2048x512) ![0, 0] S2048x512.size inb_S2048x512_S2048x512_0_0

/-- The device's own block, rounded, into the work buffer. -/
theorem wp_fill (c : Dev nD) {fw : Work F} {hl : xM.view.LoadsAt whole.toLoadRect} {hl' : wM.view.LoadsAt whole.toLoadRect} {hx hm}
    {α : Type} {p : PUnit → Prog (TpuEff nD τ sig (Elt F) Λ₀ .tc) α} {Q : α → sProp 𝕄} :
    iprop((((c : Thread nD τ).loc cc0_stg0_0) ↦{fullShare} (x c)) ∗ work c Finset.univ fullShare fw)
      ⊢ iprop((((((c : Thread nD τ).loc cc0_stg0_0) ↦{fullShare} (x c)) ∗ (rowsAt x 0 0 c ∗ rowsAt x 1 0 c))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.load (e := .f32) xM whole.toLoadRect hl) fun (v : Vec F S2048x512 .f32) =>
                .op (.load (e := .bf16) wM whole.toLoadRect hl') fun _ =>
                .op (.store wM whole (k0_pay1 v) Finset.univ hx hm) p) Q) := by
  iintro ⟨Hx, Hw⟩ Hk
  unfold work
  iapply (wp_load 𝒱₀ (c : Thread nD τ) none Set.univ (m := xM) (Finset.subset_univ _)) $$ Hx; iintro Hx
  rw [show xM.view.readAt (Elt F) whole.toLoadRect (x c) = x c from Memref.readAt_unit_zero (Elt F) cc0_stg0_0 origin _ (x c)]
  iapply (wp_load 𝒱₀ (c : Thread nD τ) none Set.univ (m := wM) (Finset.subset_univ _)) $$ Hw; iintro Hw
  iapply (wp_store 𝒱₀ (c : Thread nD τ) none Set.univ (m := wM) (r := whole) (Mk := Finset.univ) (Finset.subset_univ _)) $$ Hw; iintro Hw
  rw [show (wM.access whole).write (Elt F) fw (k0_pay1 (x c)) Finset.univ = k0_pay1 (x c) from
    Memref.write_access_unit_zero_univ (Elt F) cc0_scratch0 origin _ fw (k0_pay1 (x c))]
  iapply Hk
  isplitl [Hx]; · iexact Hx
  iapply (rows_first x c); unfold work; iexact Hw

/-- The finished sums, widened, into the result's buffer. -/
theorem wp_emit (c : Dev nD) (q : PosShare TreeShare) (g : Work F) {fo : Vec F S2048x512 .f32}
    {hl : wM.view.LoadsAt whole.toLoadRect} {hl' : oM.view.LoadsAt whole.toLoadRect} {hx hm}
    {α : Type} {p : PUnit → Prog (TpuEff nD τ sig (Elt F) Λ₀ .tc) α} {Q : α → sProp 𝕄} :
    iprop(work c Finset.univ q g ∗ (((c : Thread nD τ).loc cc0_stg1_0) ↦{fullShare} fo))
      ⊢ iprop(((work c Finset.univ q g ∗ (((c : Thread nD τ).loc cc0_stg1_0) ↦{fullShare} (k0_pay12 g)))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.load (e := .bf16) wM whole.toLoadRect hl) fun (v : Vec F S2048x512 .bf16) =>
                .op (.load (e := .f32) oM whole.toLoadRect hl') fun _ =>
                .op (.store oM whole (k0_pay12 v) Finset.univ hx hm) p) Q) := by
  iintro ⟨Hw, Ho⟩ Hk
  unfold work
  iapply (wp_load 𝒱₀ (c : Thread nD τ) none Set.univ (m := wM) (Finset.subset_univ _)) $$ Hw; iintro Hw
  rw [show wM.view.readAt (Elt F) whole.toLoadRect g = g from Memref.readAt_unit_zero (Elt F) cc0_scratch0 origin _ g]
  iapply (wp_load 𝒱₀ (c : Thread nD τ) none Set.univ (m := oM) (Finset.subset_univ _)) $$ Ho; iintro Ho
  iapply (wp_store 𝒱₀ (c : Thread nD τ) none Set.univ (m := oM) (r := whole) (Mk := Finset.univ) (Finset.subset_univ _)) $$ Ho; iintro Ho
  rw [show (oM.access whole).write (Elt F) fo (k0_pay12 g) Finset.univ = k0_pay12 g from
    Memref.write_access_unit_zero_univ (Elt F) cc0_stg1_0 origin _ fo (k0_pay12 g)]
  iapply Hk
  isplitl [Hw] <;> iassumption

/-- The rows both groups hold are the whole work buffer, -/
theorem rows_all (c : Dev nD) :
    iprop(work c (region 0 0 c) (rem 5) (total x) ∗ work c (region 1 0 c) (rem 5) (total x)) ⊢ (work c Finset.univ (rem 5) (total x) : sProp 𝕄) := by
  rw [region_zero c]
  exact Entails.of_eq (work_union c (region_zero_disjoint c c) (rem 5) _).symm

/-- and the whole work buffer with every lent share back is the device's own. -/
theorem rows_home (c : Dev nD) :
    iprop(work c Finset.univ (rem 5) (total x) ∗ lentAll x 0 0 c ∗ lentAll x 1 0 c) ⊢ (work c Finset.univ fullShare (total x) : sProp 𝕄) := by
  refine BI.Entails.trans ?_ (rows_last x c)
  conv => lhs; rw [region_zero c, work_union c (region_zero_disjoint c c) (rem 5) (total x)]
  exact BI.Entails.refl _

/-- A run over both groups' steps, term by term. -/
theorem ten (Φ : Fin 2 × Fin 5 → sProp 𝕄) :
    bigSep Finset.univ Φ = iprop((Φ (0, 0) ∗ Φ (0, 1) ∗ Φ (0, 2) ∗ Φ (0, 3) ∗ Φ (0, 4)) ∗ (Φ (1, 0) ∗ Φ (1, 1) ∗ Φ (1, 2) ∗ Φ (1, 3) ∗ Φ (1, 4))) := by
  rw [both, five, five]

/-- What a device's run starts from, besides the cells' records: its debts, its barrier's credit, its signals' tokens,
    its stock, and its four buffers. -/
def runPre (c : Dev nD) : sProp 𝕄 :=
  iprop(owing c (allDues c)
    ∗ (before c none ∗ cred (tallyAt (cell c none) () 5) ∗ bigSep Finset.univ fun d : Fin 5 => dutyTok ER (cell (peer d c) none) 0 d)
    ∗ (bigSep Finset.univ fun p : Fin 2 × Fin 5 => stock p.1 p.2 c)
    ∗ (((c : Thread nD τ).loc cc0_stg0_0) ↦{fullShare} (x c))
    ∗ (∃ f, ((c : Thread nD τ).loc cc0_stg1_0) ↦{fullShare} f)
    ∗ (∃ f, work (F := F) c Finset.univ fullShare f)
    ∗ (∃ f, recv (F := F) c Finset.univ f))

/-- What it ends with: no debts, its result, its other buffers, and all its cells done. -/
def runPost (c : Dev nD) : sProp 𝕄 :=
  iprop(owing (F := F) c []
    ∗ (((c : Thread nD τ).loc cc0_stg0_0) ↦{fullShare} (x c))
    ∗ (((c : Thread nD τ).loc cc0_stg1_0) ↦{fullShare} (resultOf x))
    ∗ (∃ f, work (F := F) c Finset.univ fullShare f)
    ∗ (∃ f, recv (F := F) c Finset.univ f)
    ∗ semVal (cell c none) 0
    ∗ bigSep Finset.univ fun r : Role => semVal (cell c (some r)) 0)

set_option maxHeartbeats 4000000 in
set_option maxRecDepth 100000 in
/-- The kernel's operations, run from `runPre` to `runPost`. -/
theorem wp_run (c : Dev nD) (Q : PUnit → sProp 𝕄) :
    iprop(records x K ∗ levAts L lv ∗ runPre x c ∗ (runPost x c -∗ Q ⟨⟩))
      ⊢ wp frame (wpE (defs₀ (F := F)) 𝒱₀ (c : Thread nD τ) none) Set.univ
          (cc0_body xM (Memref.isWhole_whole _) oM (Memref.isWhole_whole _) wM (Memref.isWhole_whole _) rM (Memref.isWhole_whole _)
            cc0_scratch2 cc0_scratch3 cc0_scratch4 cc0_scratch5 cc0_scratch6) Q := by
  simp only [cc0_body_eq_skeleton]; unfold cc0_body_skel
  simp only [k0_part23_eq_skeleton]; unfold k0_part23_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton]
  unfold k0_part1_skel k0_part2_skel k0_part3_skel k0_part4_skel k0_part5_skel k0_part6_skel k0_part7_skel
    k0_part8_skel k0_part9_skel k0_part10_skel k0_part11_skel k0_part12_skel k0_part13_skel k0_part14_skel
    k0_part15_skel k0_part16_skel k0_part17_skel k0_part18_skel k0_part19_skel k0_part20_skel k0_part21_skel
    k0_part22_skel
  simp only [semSignalWord, semWaitWord, Prog.lift, Prog.bind_op, Prog.bind_ret, Prog.pure_eq_ret, wp_deviceId]
  unfold runPre
  iintro ⟨#HR, #Hlev, ⟨HO, ⟨Hat, Hcr, Hdt⟩, Hst, Hx, ⟨%fo, Hout⟩, ⟨%fw, Hw⟩, ⟨%fr, Hr⟩⟩, Hk⟩
  -- the entry
  ihave Hs := (slots_split c fr) $$ Hr
  ihave Hs := (slots_give c) $$ Hs
  ihave Hs := (Entails.of_eq (five fun d => barPay (F := F) d (peer d c))) $$ Hs
  ihave Hdt := (Entails.of_eq (five fun d => (dutyTok ER (cell (peer d c) none) 0 d : sProp 𝕄))) $$ Hdt
  icases Hs with ⟨S0, S1, S2, S3, S4⟩
  icases Hdt with ⟨D0, D1, D2, D3, D4⟩
  iapply (wp_tell x K 0 c ⟨k0_dev1 c, k0_dev1_lt c⟩ (Fin.ext (sigDev_eq 0 c)) ((allDues c).drop 1) rfl) $$ [HO D0 S0]
  · isplitr; · iexact HR
    isplitl [D0]; · iexact D0
    isplitl [S0]; · iexact S0
    iexact HO
  iintro HO
  iapply (wp_tell x K 1 c ⟨k0_dev2 c, k0_dev2_lt c⟩ (Fin.ext (sigDev_eq 1 c)) ((allDues c).drop 2) rfl) $$ [HO D1 S1]
  · isplitr; · iexact HR
    isplitl [D1]; · iexact D1
    isplitl [S1]; · iexact S1
    iexact HO
  iintro HO
  iapply (wp_tell x K 2 c ⟨k0_dev3 c, k0_dev3_lt c⟩ (Fin.ext (sigDev_eq 2 c)) ((allDues c).drop 3) rfl) $$ [HO D2 S2]
  · isplitr; · iexact HR
    isplitl [D2]; · iexact D2
    isplitl [S2]; · iexact S2
    iexact HO
  iintro HO
  iapply (wp_tell x K 3 c ⟨k0_dev4 c, k0_dev4_lt c⟩ (Fin.ext (sigDev_eq 3 c)) ((allDues c).drop 4) rfl) $$ [HO D3 S3]
  · isplitr; · iexact HR
    isplitl [D3]; · iexact D3
    isplitl [S3]; · iexact S3
    iexact HO
  iintro HO
  iapply (wp_tell x K 4 c ⟨k0_dev5 c, k0_dev5_lt c⟩ (Fin.ext (sigDev_eq 4 c)) ((allDues c).drop 5) rfl) $$ [HO D4 S4]
  · isplitr; · iexact HR
    isplitl [D4]; · iexact D4
    isplitl [S4]; · iexact S4
    iexact HO
  iintro HO
  -- the device's own block into the work buffer
  iapply (wp_fill x c) $$ [Hx Hw]
  · isplitl [Hx] <;> iassumption
  iintro ⟨Hx, Hw⟩
  -- the meeting at the barrier
  iapply (wp_meet x K c (outDues c) (outs_above_bar c) rfl) $$ [Hat Hcr HO]
  · isplitr; · iexact HR
    isplitr; · iexact Hlev
    isplitl [Hat]; · iexact Hat
    isplitl [Hcr]; · iexact Hcr
    iexact HO
  iintro ⟨Hz, Hs, HO⟩
  ihave Hs := (ready_all c) $$ [Hst Hs]
  · isplitl [Hst] <;> iassumption
  icases Hs with ⟨HA, HB⟩
  ihave HA := (Entails.of_eq (five fun s => ready (F := F) 0 s c)) $$ HA
  ihave HB := (Entails.of_eq (five fun s => ready (F := F) 1 s c)) $$ HB
  unfold ready
  icases HA with ⟨⟨AT0, AL0, AP0, AQ0⟩, ⟨AT1, AL1, AP1, AQ1⟩, ⟨AT2, AL2, AP2, AQ2⟩, ⟨AT3, AL3, AP3, AQ3⟩, ⟨AT4, AL4, AP4, AQ4⟩⟩
  icases HB with ⟨⟨BT0, BL0, BP0, BQ0⟩, ⟨BT1, BL1, BP1, BQ1⟩, ⟨BT2, BL2, BP2, BQ2⟩, ⟨BT3, BL3, BP3, BQ3⟩, ⟨BT4, BL4, BP4, BQ4⟩⟩
  -- the reduction
  iapply (wp_reduce x K 0 c ⟨k0_dev6 c, k0_dev6_lt c⟩ ⟨k0_dev7 c, k0_dev7_lt c⟩
      (Fin.ext (rsDev_eq 0 0 c)) (Fin.ext (rsDev_eq 1 0 c)) ((outDues c).drop 2) (outs_above 0 c)
      (outOff_eq 0 0 c) (outOff_eq 1 0 c) (keepOff_eq 0 0 c) (keepOff_eq 1 0 c) rfl rfl rfl rfl rfl rfl
      (add_pay _) (add_pay _)) $$ [Hw AT0 BT0 HO]
  · isplitr; · iexact HR
    isplitr; · iexact Hlev
    isplitl [Hw]; · iexact Hw
    isplitl [AT0 BT0]; · isplitl [AT0] <;> iassumption
    iexact HO
  iintro ⟨Hw, HD0, HO⟩
  iapply (wp_reduce x K 1 c ⟨k0_dev8 c, k0_dev8_lt c⟩ ⟨k0_dev9 c, k0_dev9_lt c⟩
      (Fin.ext (rsDev_eq 0 1 c)) (Fin.ext (rsDev_eq 1 1 c)) ((outDues c).drop 4) (outs_above 1 c)
      (outOff_eq 0 1 c) (outOff_eq 1 1 c) (keepOff_eq 0 1 c) (keepOff_eq 1 1 c) rfl rfl rfl rfl rfl rfl
      (add_pay _) (add_pay _)) $$ [Hw AT1 BT1 HO]
  · isplitr; · iexact HR
    isplitr; · iexact Hlev
    isplitl [Hw]; · iexact Hw
    isplitl [AT1 BT1]; · isplitl [AT1] <;> iassumption
    iexact HO
  iintro ⟨Hw, HD1, HO⟩
  iapply (wp_reduce x K 2 c ⟨k0_dev10 c, k0_dev10_lt c⟩ ⟨k0_dev11 c, k0_dev11_lt c⟩
      (Fin.ext (rsDev_eq 0 2 c)) (Fin.ext (rsDev_eq 1 2 c)) ((outDues c).drop 6) (outs_above 2 c)
      (outOff_eq 0 2 c) (outOff_eq 1 2 c) (keepOff_eq 0 2 c) (keepOff_eq 1 2 c) rfl rfl rfl rfl rfl rfl
      (add_pay _) (add_pay _)) $$ [Hw AT2 BT2 HO]
  · isplitr; · iexact HR
    isplitr; · iexact Hlev
    isplitl [Hw]; · iexact Hw
    isplitl [AT2 BT2]; · isplitl [AT2] <;> iassumption
    iexact HO
  iintro ⟨Hw, HD2, HO⟩
  iapply (wp_reduce x K 3 c ⟨k0_dev12 c, k0_dev12_lt c⟩ ⟨k0_dev13 c, k0_dev13_lt c⟩
      (Fin.ext (rsDev_eq 0 3 c)) (Fin.ext (rsDev_eq 1 3 c)) ((outDues c).drop 8) (outs_above 3 c)
      (outOff_eq 0 3 c) (outOff_eq 1 3 c) (keepOff_eq 0 3 c) (keepOff_eq 1 3 c) rfl rfl rfl rfl rfl rfl
      (add_pay _) (add_pay _)) $$ [Hw AT3 BT3 HO]
  · isplitr; · iexact HR
    isplitr; · iexact Hlev
    isplitl [Hw]; · iexact Hw
    isplitl [AT3 BT3]; · isplitl [AT3] <;> iassumption
    iexact HO
  iintro ⟨Hw, HD3, HO⟩
  iapply (wp_reduce x K 4 c ⟨k0_dev14 c, k0_dev14_lt c⟩ ⟨k0_dev15 c, k0_dev15_lt c⟩
      (Fin.ext (rsDev_eq 0 4 c)) (Fin.ext (rsDev_eq 1 4 c)) ((outDues c).drop 10) (outs_above 4 c)
      (outOff_eq 0 4 c) (outOff_eq 1 4 c) (keepOff_eq 0 4 c) (keepOff_eq 1 4 c) rfl rfl rfl rfl rfl rfl
      (add_pay _) (add_pay _)) $$ [Hw AT4 BT4 HO]
  · isplitr; · iexact HR
    isplitr; · iexact Hlev
    isplitl [Hw]; · iexact Hw
    isplitl [AT4 BT4]; · isplitl [AT4] <;> iassumption
    iexact HO
  iintro ⟨Hw, HD4, HO⟩
  -- the gathering
  ihave Hh := (show iprop(rowsAt x 0 ((4 : Fin 5).val + 1) c ∗ rowsAt x 1 ((4 : Fin 5).val + 1) c)
      ⊢ iprop(held x 0 ((4 : Fin 5).val + 1) c ∗ held x 1 ((4 : Fin 5).val + 1) c) from
    Entails.of_eq (congrArg₂ (fun A B => iprop(A ∗ B)) (held_last x 0 c) (held_last x 1 c))) $$ Hw
  iapply (wp_collect x K 4 c ⟨k0_dev16 c, k0_dev16_lt c⟩ ⟨k0_dev17 c, k0_dev17_lt c⟩
      (Fin.ext (agDev_eq 0 4 c)) (Fin.ext (agDev_eq 1 4 c)) ((lendDues c).drop 2) (lends_above 4 c)
      (doneOff_eq 0 4 c) (doneOff_eq 1 4 c) rfl rfl rfl rfl (rows_credit 4) (rows_credit 4)) $$ [Hh HD4 AL4 BL4 HO]
  · isplitr; · iexact HR
    isplitr; · iexact Hlev
    isplitl [Hh]; · iexact Hh
    isplitl [HD4]; · iexact HD4
    isplitl [AL4 BL4]; · isplitl [AL4] <;> iassumption
    iexact HO
  iintro ⟨Hh, ⟨AD4, BD4⟩, HO⟩
  iapply (wp_collect x K 3 c ⟨k0_dev18 c, k0_dev18_lt c⟩ ⟨k0_dev19 c, k0_dev19_lt c⟩
      (Fin.ext (agDev_eq 0 3 c)) (Fin.ext (agDev_eq 1 3 c)) ((lendDues c).drop 4) (lends_above 3 c)
      (doneOff_eq 0 3 c) (doneOff_eq 1 3 c) rfl rfl rfl rfl (rows_credit 3) (rows_credit 3)) $$ [Hh HD3 AL3 BL3 HO]
  · isplitr; · iexact HR
    isplitr; · iexact Hlev
    isplitl [Hh]; · iexact Hh
    isplitl [HD3]; · iexact HD3
    isplitl [AL3 BL3]; · isplitl [AL3] <;> iassumption
    iexact HO
  iintro ⟨Hh, ⟨AD3, BD3⟩, HO⟩
  iapply (wp_collect x K 2 c ⟨k0_dev20 c, k0_dev20_lt c⟩ ⟨k0_dev21 c, k0_dev21_lt c⟩
      (Fin.ext (agDev_eq 0 2 c)) (Fin.ext (agDev_eq 1 2 c)) ((lendDues c).drop 6) (lends_above 2 c)
      (doneOff_eq 0 2 c) (doneOff_eq 1 2 c) rfl rfl rfl rfl (rows_credit 2) (rows_credit 2)) $$ [Hh HD2 AL2 BL2 HO]
  · isplitr; · iexact HR
    isplitr; · iexact Hlev
    isplitl [Hh]; · iexact Hh
    isplitl [HD2]; · iexact HD2
    isplitl [AL2 BL2]; · isplitl [AL2] <;> iassumption
    iexact HO
  iintro ⟨Hh, ⟨AD2, BD2⟩, HO⟩
  iapply (wp_collect x K 1 c ⟨k0_dev22 c, k0_dev22_lt c⟩ ⟨k0_dev23 c, k0_dev23_lt c⟩
      (Fin.ext (agDev_eq 0 1 c)) (Fin.ext (agDev_eq 1 1 c)) ((lendDues c).drop 8) (lends_above 1 c)
      (doneOff_eq 0 1 c) (doneOff_eq 1 1 c) rfl rfl rfl rfl (rows_credit 1) (rows_credit 1)) $$ [Hh HD1 AL1 BL1 HO]
  · isplitr; · iexact HR
    isplitr; · iexact Hlev
    isplitl [Hh]; · iexact Hh
    isplitl [HD1]; · iexact HD1
    isplitl [AL1 BL1]; · isplitl [AL1] <;> iassumption
    iexact HO
  iintro ⟨Hh, ⟨AD1, BD1⟩, HO⟩
  iapply (wp_collect x K 0 c ⟨k0_dev24 c, k0_dev24_lt c⟩ ⟨k0_dev25 c, k0_dev25_lt c⟩
      (Fin.ext (agDev_eq 0 0 c)) (Fin.ext (agDev_eq 1 0 c)) ((lendDues c).drop 10) (lends_above 0 c)
      (doneOff_eq 0 0 c) (doneOff_eq 1 0 c) rfl rfl rfl rfl (rows_credit 0) (rows_credit 0)) $$ [Hh HD0 AL0 BL0 HO]
  · isplitr; · iexact HR
    isplitr; · iexact Hlev
    isplitl [Hh]; · iexact Hh
    isplitl [HD0]; · iexact HD0
    isplitl [AL0 BL0]; · isplitl [AL0] <;> iassumption
    iexact HO
  iintro ⟨Hh, ⟨AD0, BD0⟩, HO⟩
  -- the result
  unfold held
  icases Hh with ⟨H0, H1⟩
  iapply (wp_emit c (rem 5) (total x)) $$ [H0 H1 Hout]
  · isplitr [Hout]
    · iapply (rows_all x c); isplitl [H0]; · iexact H0
      iexact H1
    · iexact Hout
  iintro ⟨Hh, Hout⟩
  -- the device's own transfers have left
  iapply (wp_out_left x K 0 0 c (rows_credit 0) rfl) $$ [AD0 AP0 HO]
  · isplitr; · iexact HR
    isplitr; · iexact Hlev
    isplitl [AD0]; · iexact AD0
    isplitl [AP0]; · iexact AP0
    iexact HO
  iintro ⟨AD0, HO⟩
  iapply (wp_out_left x K 1 0 c (rows_credit 0) rfl) $$ [BD0 BP0 HO]
  · isplitr; · iexact HR
    isplitr; · iexact Hlev
    isplitl [BD0]; · iexact BD0
    isplitl [BP0]; · iexact BP0
    iexact HO
  iintro ⟨BD0, HO⟩
  iapply (wp_out_left x K 0 1 c (rows_credit 1) rfl) $$ [AD1 AP1 HO]
  · isplitr; · iexact HR
    isplitr; · iexact Hlev
    isplitl [AD1]; · iexact AD1
    isplitl [AP1]; · iexact AP1
    iexact HO
  iintro ⟨AD1, HO⟩
  iapply (wp_out_left x K 1 1 c (rows_credit 1) rfl) $$ [BD1 BP1 HO]
  · isplitr; · iexact HR
    isplitr; · iexact Hlev
    isplitl [BD1]; · iexact BD1
    isplitl [BP1]; · iexact BP1
    iexact HO
  iintro ⟨BD1, HO⟩
  iapply (wp_out_left x K 0 2 c (rows_credit 2) rfl) $$ [AD2 AP2 HO]
  · isplitr; · iexact HR
    isplitr; · iexact Hlev
    isplitl [AD2]; · iexact AD2
    isplitl [AP2]; · iexact AP2
    iexact HO
  iintro ⟨AD2, HO⟩
  iapply (wp_out_left x K 1 2 c (rows_credit 2) rfl) $$ [BD2 BP2 HO]
  · isplitr; · iexact HR
    isplitr; · iexact Hlev
    isplitl [BD2]; · iexact BD2
    isplitl [BP2]; · iexact BP2
    iexact HO
  iintro ⟨BD2, HO⟩
  iapply (wp_out_left x K 0 3 c (rows_credit 3) rfl) $$ [AD3 AP3 HO]
  · isplitr; · iexact HR
    isplitr; · iexact Hlev
    isplitl [AD3]; · iexact AD3
    isplitl [AP3]; · iexact AP3
    iexact HO
  iintro ⟨AD3, HO⟩
  iapply (wp_out_left x K 1 3 c (rows_credit 3) rfl) $$ [BD3 BP3 HO]
  · isplitr; · iexact HR
    isplitr; · iexact Hlev
    isplitl [BD3]; · iexact BD3
    isplitl [BP3]; · iexact BP3
    iexact HO
  iintro ⟨BD3, HO⟩
  iapply (wp_out_left x K 0 4 c (rows_credit 4) rfl) $$ [AD4 AP4 HO]
  · isplitr; · iexact HR
    isplitr; · iexact Hlev
    isplitl [AD4]; · iexact AD4
    isplitl [AP4]; · iexact AP4
    iexact HO
  iintro ⟨AD4, HO⟩
  iapply (wp_out_left x K 1 4 c (rows_credit 4) rfl) $$ [BD4 BP4 HO]
  · isplitr; · iexact HR
    isplitr; · iexact Hlev
    isplitl [BD4]; · iexact BD4
    isplitl [BP4]; · iexact BP4
    iexact HO
  iintro ⟨BD4, HO⟩
  ihave AS := (lentAll_last x 0 c) $$ []; · iempintro
  ihave BS := (lentAll_last x 1 c) $$ []; · iempintro
  iapply (wp_lend_left x K 0 4 c (rows_credit 4) rfl) $$ [AD4 AS AQ4 HO]
  · isplitr; · iexact HR
    isplitr; · iexact Hlev
    isplitl [AD4]; · iexact AD4
    isplitl [AS]; · iexact AS
    isplitl [AQ4] <;> iassumption
  iintro ⟨AD4, AS, HO⟩
  iapply (wp_lend_left x K 1 4 c (rows_credit 4) rfl) $$ [BD4 BS BQ4 HO]
  · isplitr; · iexact HR
    isplitr; · iexact Hlev
    isplitl [BD4]; · iexact BD4
    isplitl [BS]; · iexact BS
    isplitl [BQ4] <;> iassumption
  iintro ⟨BD4, BS, HO⟩
  iapply (wp_lend_left x K 0 3 c (rows_credit 3) rfl) $$ [AD3 AS AQ3 HO]
  · isplitr; · iexact HR
    isplitr; · iexact Hlev
    isplitl [AD3]; · iexact AD3
    isplitl [AS]; · iexact AS
    isplitl [AQ3] <;> iassumption
  iintro ⟨AD3, AS, HO⟩
  iapply (wp_lend_left x K 1 3 c (rows_credit 3) rfl) $$ [BD3 BS BQ3 HO]
  · isplitr; · iexact HR
    isplitr; · iexact Hlev
    isplitl [BD3]; · iexact BD3
    isplitl [BS]; · iexact BS
    isplitl [BQ3] <;> iassumption
  iintro ⟨BD3, BS, HO⟩
  iapply (wp_lend_left x K 0 2 c (rows_credit 2) rfl) $$ [AD2 AS AQ2 HO]
  · isplitr; · iexact HR
    isplitr; · iexact Hlev
    isplitl [AD2]; · iexact AD2
    isplitl [AS]; · iexact AS
    isplitl [AQ2] <;> iassumption
  iintro ⟨AD2, AS, HO⟩
  iapply (wp_lend_left x K 1 2 c (rows_credit 2) rfl) $$ [BD2 BS BQ2 HO]
  · isplitr; · iexact HR
    isplitr; · iexact Hlev
    isplitl [BD2]; · iexact BD2
    isplitl [BS]; · iexact BS
    isplitl [BQ2] <;> iassumption
  iintro ⟨BD2, BS, HO⟩
  iapply (wp_lend_left x K 0 1 c (rows_credit 1) rfl) $$ [AD1 AS AQ1 HO]
  · isplitr; · iexact HR
    isplitr; · iexact Hlev
    isplitl [AD1]; · iexact AD1
    isplitl [AS]; · iexact AS
    isplitl [AQ1] <;> iassumption
  iintro ⟨AD1, AS, HO⟩
  iapply (wp_lend_left x K 1 1 c (rows_credit 1) rfl) $$ [BD1 BS BQ1 HO]
  · isplitr; · iexact HR
    isplitr; · iexact Hlev
    isplitl [BD1]; · iexact BD1
    isplitl [BS]; · iexact BS
    isplitl [BQ1] <;> iassumption
  iintro ⟨BD1, BS, HO⟩
  iapply (wp_lend_left x K 0 0 c (rows_credit 0) rfl) $$ [AD0 AS AQ0 HO]
  · isplitr; · iexact HR
    isplitr; · iexact Hlev
    isplitl [AD0]; · iexact AD0
    isplitl [AS]; · iexact AS
    isplitl [AQ0] <;> iassumption
  iintro ⟨AD0, AS, HO⟩
  iapply (wp_lend_left x K 1 0 c (rows_credit 0) rfl) $$ [BD0 BS BQ0 HO]
  · isplitr; · iexact HR
    isplitr; · iexact Hlev
    isplitl [BD0]; · iexact BD0
    isplitl [BS]; · iexact BS
    isplitl [BQ0] <;> iassumption
  iintro ⟨BD0, BS, HO⟩
  rw [wp_ret]
  imodintro
  iapply Hk
  unfold runPost
  isplitl [HO]; · iexact HO
  isplitl [Hx]; · iexact Hx
  isplitl [Hout]; · iexact Hout
  isplitl [Hh AS BS]
  · iexists total x
    iapply (rows_home x c)
    isplitl [Hh]; · iexact Hh
    isplitl [AS]; · iexact AS
    iexact BS
  ihave Hov := (over_all c) $$ [AD0 AD1 AD2 AD3 AD4 BD0 BD1 BD2 BD3 BD4]
  · iapply (Entails.of_eq (ten fun p => over (F := F) p.1 p.2 c).symm)
    isplitl [AD0 AD1 AD2 AD3 AD4]
    · isplitl [AD0]; · iexact AD0
      isplitl [AD1]; · iexact AD1
      isplitl [AD2]; · iexact AD2
      isplitl [AD3] <;> iassumption
    · isplitl [BD0]; · iexact BD0
      isplitl [BD1]; · iexact BD1
      isplitl [BD2]; · iexact BD2
      isplitl [BD3] <;> iassumption
  icases Hov with ⟨Hr, Hz'⟩
  isplitl [Hr]; · iexact Hr
  isplitl [Hz] <;> iassumption

end

end Cert.CubeProof
-- ==== Proof.Deal.lean ====
/-
# What the launch deals out

The launch makes, for every cell, its record, its owner's position and the tokens of its duties, and for every debt of
some device the credit of the cell it will be paid to. Here each device gets what its run starts from.
-/
module

public import proofs.«01_k».proof.Proof.Body
public import Idealize.ShloMosaic.Lib.Pipeline.Launch

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A run over a device's cells: its barrier, then its transfer cells. -/
theorem by_cell (Φ : Option Role → sProp 𝕄) :
    bigSep Finset.univ Φ = iprop(Φ none ∗ bigSep Finset.univ fun r => Φ (some r)) := by
  rw [bigSep_univ_equiv (Equiv.optionEquivSumPUnit.{0, 0} Role).symm Φ, bigSep_univ_sum,
    bigSep_univ_of_subsingleton (PUnit.unit : PUnit.{1})]
  have h {P Q : sProp 𝕄} : iprop(P ∗ Q) ⊢ iprop(Q ∗ P) := by
    iintro ⟨HP, HQ⟩; isplitl [HQ] <;> iassumption
  exact BI.Entails.antisymm h h

/-! ## Credits -/

/-- All of a device's debts, as a sum. -/
theorem due_sum (c : Dev nD) : due (allDues c)
    = (∑ d : Fin 5, tallyAt (cell (peer d c) none) () 1)
      + ∑ p : Fin 2 × Fin 5, (tallyAt (cell (mate p.1 p.2 c) (some (1, p.1, p.2))) () (cr p.2)
          + tallyAt (cell (mate p.1 p.2 c) (some (3, p.1, p.2))) () (cr p.2)) := by
  rw [Fintype.sum_prod_type, Fin.sum_univ_two, Fin.sum_univ_five, Fin.sum_univ_five, Fin.sum_univ_five]
  unfold allDues outDues lendDues
  simp only [due, zero_add]
  ac_rfl

/-- The five units that a device's partners owe its barrier. -/
theorem five_units (c : Dev nD) :
    (bigSep Finset.univ fun _ : Fin 5 => cred (tallyAt (cell c none) () 1) : sProp 𝕄) ⊢ cred (tallyAt (cell c none) () 5) := by
  rw [← Pipeline.cred_finsetSum]
  refine Entails.of_eq (congrArg cred ?_)
  rw [Fin.sum_univ_five, tallyAt_add, tallyAt_add, tallyAt_add, tallyAt_add]

/-- The credits the launch deals a device: its barrier's, and its arrivals' of both directions. -/
theorem credits (c : Dev nD) :
    (Pipeline.launchCred (fun d => due (allDues d)) c : sProp 𝕄)
      ⊢ iprop(cred (tallyAt (cell c none) () 5)
        ∗ bigSep Finset.univ fun p : Fin 2 × Fin 5 => iprop(credit (1, p.1, p.2) c ∗ credit (3, p.1, p.2) c)) := by
  rw [funext due_sum, Pipeline.launchCred_add, Pipeline.launchCred_sum,
    Pipeline.launchCred_sum]
  refine BI.sep_mono ((bigSep_mono fun d _ => ?_).trans (five_units c)) (bigSep_mono fun p _ => ?_)
  · exact Pipeline.launchCred_tallyAt (.reg barS) (peer d) (peer d) (peer_peer d) (peer_peer d) () 1 c
  · rw [Pipeline.launchCred_add]
    exact BI.sep_mono
      (Pipeline.launchCred_tallyAt (.dma (dsem (1, p.1, p.2))) (mate p.1 p.2) (mate p.1 p.2) (mate_mate p.1 p.2) (mate_mate p.1 p.2) () (cr p.2) c)
      (Pipeline.launchCred_tallyAt (.dma (dsem (3, p.1, p.2))) (mate p.1 p.2) (mate p.1 p.2) (mate_mate p.1 p.2) (mate_mate p.1 p.2) () (cr p.2) c)

/-! ## Cells and tokens -/

theorem cell_injective : Function.Injective fun co : Dev nD × Option Role => cell co.1 co.2 := fun a b h =>
  Prod.ext (cell_eq_iff.mp h).1 (cell_eq_iff.mp h).2

/-- All cells of all devices. -/
def allCells : Finset (GSem nD τ sig) := Finset.univ.map ⟨_, cell_injective⟩

/-- The duties of a device's cells: five at its barrier, one at each transfer cell. -/
abbrev tokOf (t : Dev nD × (Fin 5 ⊕ Role)) : GSem nD τ sig × ℕ × Fin 5 :=
  match t.2 with
  | .inl d => (cell t.1 none, 0, d)
  | .inr r => (cell t.1 (some r), 0, 0)

theorem tokOf_injective : Function.Injective tokOf := by
  rintro ⟨c, i⟩ ⟨c', i'⟩ h
  rcases i with d | r <;> rcases i' with d' | r'
  · have hc : cell c none = cell c' none := congrArg (fun t => t.1) h
    have hd : d = d' := congrArg (fun t => t.2.2) h
    rw [(cell_eq_iff.mp hc).1, hd]
  · have hc : cell c none = cell c' (some r') := congrArg (fun t => t.1) h
    cases (cell_eq_iff.mp hc).2
  · have hc : cell c (some r) = cell c' none := congrArg (fun t => t.1) h
    cases (cell_eq_iff.mp hc).2
  · have hc : cell c (some r) = cell c' (some r') := congrArg (fun t => t.1) h
    rw [(cell_eq_iff.mp hc).1, Option.some.inj (cell_eq_iff.mp hc).2]

/-- All duties of all cells. -/
def allToks : Finset (GSem nD τ sig × ℕ × Fin 5) := Finset.univ.map ⟨_, tokOf_injective⟩

/-- The tokens of the duties of a device's own cells. -/
def minted (c : Dev nD) : sProp 𝕄 :=
  iprop((bigSep Finset.univ fun d : Fin 5 => dutyTok ER (cell c none) 0 d) ∗ bigSep Finset.univ fun r : Role => token r c)

/-- The tokens of the duties a device pays. -/
def pays (c : Dev nD) : sProp 𝕄 :=
  iprop((bigSep Finset.univ fun d : Fin 5 => dutyTok ER (cell (peer d c) none) 0 d)
    ∗ bigSep Finset.univ fun p : Fin 2 × Fin 5 =>
        iprop(token (0, p.1, p.2) c ∗ token (1, p.1, p.2) (mate p.1 p.2 c) ∗ token (2, p.1, p.2) c ∗ token (3, p.1, p.2) (mate p.1 p.2 c)))

/-- A run over devices and a finite index, each index's terms moved along a bijection of the devices. -/
theorem moved {A : Type} [Fintype A] (e : A → Dev nD ≃ Dev nD) (Φ : A → Dev nD → sProp 𝕄) :
    (bigSep Finset.univ fun c => bigSep Finset.univ fun a => Φ a c) = bigSep Finset.univ fun c => bigSep Finset.univ fun a => Φ a (e a c) := by
  rw [bigSep_univ_comm, bigSep_univ_comm (fun c a => Φ a (e a c))]
  exact bigSep_congr fun a _ => bigSep_univ_equiv (e a) (Φ a)

/-- The tokens go to those who pay. -/
theorem minted_pays : (bigSep Finset.univ fun c : Dev nD => (minted c : sProp 𝕄)) ⊢ bigSep Finset.univ fun c : Dev nD => pays c := by
  unfold minted pays
  simp only [by_kind, bigSep_sep']
  rw [moved peerEquiv (fun d c => (dutyTok ER (cell c none) 0 d : sProp 𝕄)),
    moved (fun p : Fin 2 × Fin 5 => peerEquiv (dim p.1 p.2)) (fun p c => (token (1, p) c : sProp 𝕄)),
    moved (fun p : Fin 2 × Fin 5 => peerEquiv (dim p.1 p.2)) (fun p c => (token (3, p) c : sProp 𝕄))]
  exact BI.Entails.refl _

/-! ## The launch's deal -/

section
variable (x : Dev nD → Vec F S2048x512 .f32)

/-- What the ghost state made at launch gives a device. -/
def dealt (c : Dev nD) : sProp 𝕄 :=
  iprop((bigSep Finset.univ fun o : Option Role => roundState ER (sched x) (cell c o) 0)
    ∗ (bigSep Finset.univ fun o : Option Role => iprop(before c o ∗ reached ER (cell c o) 0)) ∗ minted c)

/-- What a device keeps of it when all records are shared. -/
def kept (c : Dev nD) : sProp 𝕄 := iprop((bigSep Finset.univ fun o : Option Role => before (F := F) c o) ∗ pays c)

/-- Every device with the records of all cells. -/
def shared (c : Dev nD) : sProp 𝕄 := iprop(∃ K, records x K ∗ kept c)

/-- The launch's ghost state, dealt to the devices. -/
theorem fund_cells : BI.own (ER (initOf allCells allToks)) ⊢ (|==> bigSep Finset.univ (dealt x) : sProp 𝕄) := by
  have hX (Φ : GSem nD τ sig → sProp 𝕄) : bigSep allCells Φ = bigSep Finset.univ fun c : Dev nD => bigSep Finset.univ fun o : Option Role => Φ (cell c o) := by
    unfold allCells; rw [bigSep_map, bigSep_univ_prod]; rfl
  have hT : bigSep allToks (fun t => (dutyTok ER t.1 t.2.1 t.2.2 : sProp 𝕄)) = bigSep Finset.univ fun c : Dev nD => minted c := by
    unfold allToks; rw [bigSep_map, bigSep_univ_prod]
    exact bigSep_congr fun c _ => by unfold minted; rw [bigSep_univ_sum]; rfl
  iintro HX
  imod (Rounds.fund ER (sched x) allCells allToks) $$ HX with ⟨Hst, Hr, Hat, Htok⟩
  imodintro
  ihave Hst := (Entails.of_eq (hX fun g => roundState ER (sched x) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-- The kernel's own semaphores are the transfer cells. -/
abbrev osem (r : Role) : SemLoc sig := .dma (dsem r)

abbrev ownSems (c : Dev nD) : sProp 𝕄 := Pipeline.ownSems0 (Ix := Unit) (Name := ℕ) (U := UU) (Lvl := ℕ) (Val := Elt F) (τ := τ) osem c

/-- The one semaphore outside the kernel is the barrier. -/
theorem barrier_sems (c : Dev nD) : (unscopedSems0 c : sProp 𝕄) = semVal (cell c none) 0 := by
  unfold unscopedSems0; rw [bigSep_eq_bigSepL_of_eq [SemLoc.reg barS] (by decide) (by decide)]; rfl

/-- Every cell starts at zero. -/
theorem sems_zero (c : Dev nD) :
    iprop(ownSems (F := F) c ∗ unscopedSems0 c) ⊢ (bigSep Finset.univ fun o : Option Role => semVal (cell c o) 0 : sProp 𝕄) := by
  rw [barrier_sems, by_cell]
  unfold ownSems Pipeline.ownSems0
  iintro ⟨HD, HB⟩
  isplitl [HB] <;> iassumption

/-- Each cell of a device gets its invariant. -/
theorem alloc (c : Dev nD) :
    iprop(ownSems (F := F) c ∗ unscopedSems0 c ∗ dealt x c)
      ⊢ |={Set.univ}=> iprop((bigSep Finset.univ fun o : Option Role => iprop(∃ κ : ℕ, cellInv ER (sched x) κ (cell c o)))
          ∗ (bigSep Finset.univ fun o : Option Role => iprop(before c o ∗ reached ER (cell c o) 0)) ∗ minted c) := by
  have hA : iprop((bigSep Finset.univ fun o : Option Role => semVal (cell c o) 0)
        ∗ bigSep Finset.univ fun o : Option Role => roundState ER (sched x) (cell c o) 0)
      ⊢ (|={Set.univ}=> bigSep Finset.univ fun o : Option Role => iprop(∃ κ : ℕ, cellInv ER (sched x) κ (cell c o)) : sProp 𝕄) := by
    rw [← bigSep_sep']
    exact (bigSep_mono fun o _ => (Rounds.body_intro ER (sched x) (cell c o)).trans inv_alloc).trans (bigSep_fupd _ _)
  unfold dealt
  iintro ⟨Hos, Hus, Hst, Hat, Htok⟩
  ihave Hv := (sems_zero (F := F) c) $$ [Hos Hus]
  · isplitl [Hos] <;> iassumption
  imod hA $$ [Hv Hst] with Hinv
  · isplitl [Hv] <;> iassumption
  imodintro
  isplitl [Hinv]; · iexact Hinv
  isplitl [Hat] <;> iassumption

/-- The records of all cells go to all devices, the tokens to those who pay. -/
theorem share :
    (bigSep Finset.univ fun c : Dev nD => iprop((bigSep Finset.univ fun o : Option Role => iprop(∃ κ : ℕ, cellInv ER (sched x) κ (cell c o)))
          ∗ (bigSep Finset.univ fun o : Option Role => iprop(before c o ∗ reached ER (cell c o) 0)) ∗ minted c) : sProp 𝕄)
      ⊢ bigSep Finset.univ (shared x) := by
  simp only [bigSep_sep']
  rw [← bigSep_univ_prod (fun co : Dev nD × Option Role => iprop(∃ κ : ℕ, cellInv ER (sched x) κ (cell co.1 co.2))),
    ← bigSep_univ_prod (fun co : Dev nD × Option Role => (reached ER (cell co.1 co.2) 0 : sProp 𝕄))]
  iintro ⟨HI, ⟨Hat, #HR⟩, Htok⟩
  ihave HK := (BI.bigSep_exists_pi Finset.univ (fun (co : Dev nD × Option Role) (κ : ℕ) => (cellInv ER (sched x) κ (cell co.1 co.2) : sProp 𝕄))) $$ HI
  icases HK with ⟨%K, #HI⟩
  ihave Htk := (minted_pays (F := F)) $$ Htok
  have hd : iprop(records x K ∗ bigSep Finset.univ fun c : Dev nD => kept (F := F) c) ⊢ bigSep Finset.univ (shared x) := by
    refine bigSep_with_persistent (R := records x K) fun c _ => ?_
    unfold shared
    iintro H; iexists K; iexact H
  iapply hd
  isplitr
  · unfold records; isplitl; · iexact HI
    iexact HR
  · unfold kept; rw [bigSep_sep']
    isplitl [Hat] <;> iassumption

/-- The whole deal. -/
theorem deal : (bigSep Finset.univ fun c => iprop(ownSems (F := F) c ∗ unscopedSems0 c ∗ dealt x c) : sProp 𝕄)
    ⊢ |={Set.univ}=> bigSep Finset.univ (shared x) :=
  ((bigSep_mono fun c _ => alloc x c).trans (bigSep_fupd _ _)).trans (BI.fupd_mono (share x))

/-- What a device keeps and its credits are its stock for all steps and what it needs at the barrier. -/
theorem kept_stock (c : Dev nD) :
    iprop(kept (F := F) c ∗ cred (tallyAt (cell c none) () 5)
        ∗ bigSep Finset.univ fun p : Fin 2 × Fin 5 => iprop(credit (1, p.1, p.2) c ∗ credit (3, p.1, p.2) c))
      ⊢ (iprop((before c none ∗ cred (tallyAt (cell c none) () 5) ∗ bigSep Finset.univ fun d : Fin 5 => dutyTok ER (cell (peer d c) none) 0 d)
        ∗ bigSep Finset.univ fun p : Fin 2 × Fin 5 => stock p.1 p.2 c) : sProp 𝕄) := by
  unfold kept pays stock
  rw [by_cell, by_kind]
  simp only [bigSep_sep']
  iintro ⟨⟨⟨HB, HK⟩, HD, HT⟩, HC, Hcr⟩
  isplitl [HB HC HD]
  · isplitl [HB]; · iexact HB
    isplitl [HC] <;> iassumption
  isplitl [HT]; · iexact HT
  isplitl [HK] <;> iassumption

end

end Cert.CubeProof
-- ==== Proof.Launch.lean ====
/-
# The launch

From any memory the kernel runs on all 32 devices to its end. Every semaphore is back at zero, the argument arrays hold
what they held, and every device's result array holds the sum of all arguments, cast back from the working type.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.Kit
public import Idealize.ShloMosaic.Lib.Tactic

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument of a device. -/
def arg (c : Dev nD) : Vec F S2048x512 .f32 := m ((c : Thread nD τ).loc main_arg0)

/-! ## The blocks are the whole arrays -/

/-- The block of the argument is the whole argument. -/
theorem read_arg (f : main_arg0.ty.Contents (Elt F)) : (win0_0.blk (0 : Fin 1)).view.read (Elt F) f = f :=
  Memref.read_access_unit_zero (Elt F) main_arg0 (funext fun a => by fin_cases a <;> decide) (fun a => by fin_cases a <;> decide) f

/-- The block of the result is the whole result. -/
theorem read_res (f : main_v1.ty.Contents (Elt F)) : (win0_1.blk (0 : Fin 1)).view.read (Elt F) f = f :=
  Memref.read_access_unit_zero (Elt F) main_v1 (funext fun a => by fin_cases a <;> decide) (fun a => by fin_cases a <;> decide) f

/-! ## The region's data -/

/-- What a device starts from, its buffers aside. -/
def start (c : Dev nD) : sProp 𝕄 :=
  iprop(shared (arg m) c
    ∗ (cred (tallyAt (cell c none) () 5)
        ∗ bigSep Finset.univ fun p : Fin 2 × Fin 5 => iprop(credit (1, p.1, p.2) c ∗ credit (3, p.1, p.2) c))
    ∗ levAts L lv)

/-- Before the body: that, and the scratch buffers. -/
def Φ₀ (c : Dev nD) : sProp 𝕄 :=
  iprop(start m c ∗ (∃ f, work (F := F) c Finset.univ fullShare f) ∗ ∃ f, recv (F := F) c Finset.univ f)

/-- After it: the scratch buffers, and all cells at zero. -/
def Φ₁ (c : Dev nD) : sProp 𝕄 :=
  iprop((∃ f, work (F := F) c Finset.univ fullShare f) ∗ (∃ f, recv (F := F) c Finset.univ f)
    ∗ semVal (cell c none) 0 ∗ bigSep Finset.univ fun r : Role => semVal (cell c (some r)) 0)

/-- The region of the one call: what its buffers hold before and after its only point. -/
def dats (_ : Fin 1) (c : Dev nD) : Dat τ (Elt F) Unit ℕ UU ℕ cfg0 c where
  A w := m ((cfg0.win w).arr.view.loc (c : Thread nD τ))
  after w _ := match w with
    | ⟨0, _⟩ => arg m c
    | ⟨1, _⟩ => resultOf (arg m)
  Φ t := match t with
    | ⟨0, _⟩ => Φ₀ m c
    | ⟨_ + 1, _⟩ => Φ₁ c
  q _ := fullShare
  owed t := match t with
    | ⟨0, _⟩ => due (allDues c)
    | ⟨_ + 1, _⟩ => 0

theorem share_eq (c : Dev nD) (w : Fin cfg0.W) : (dats m 0 c).share w = fullShare := by unfold Dat.share; split <;> rfl

/-- A whole buffer owned as a block. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer with known contents, as the region states it. -/
abbrev staging (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run on, -/
def bodyPre (c : Dev nD) : sProp 𝕄 :=
  iprop(Φ₀ m c ∗ (dats m 0 c).owesAt () (Fin.castSucc t0_0)
    ∗ (∃ d, staging c cc0_stg0_0 ((dats m 0 c).before (0 : Fin 2) t0_0 d))
    ∗ (∃ d, staging c cc0_stg1_0 ((dats m 0 c).before (1 : Fin 2) t0_0 d)))

/-- and what it leaves. -/
def bodyPost (c : Dev nD) : sProp 𝕄 :=
  iprop(Φ₁ c ∗ (dats m 0 c).owesAt () (Fin.succ t0_0) ∗ staging c cc0_stg0_0 (arg m c) ∗ staging c cc0_stg1_0 (resultOf (arg m)))

set_option maxRecDepth 4000 in
/-- The block the body finds staged is the argument. -/
theorem staged (c : Dev nD) (d) : (dats m 0 c).before (0 : Fin 2) t0_0 d = arg m c := by
  unfold Dat.before
  refine (if_pos (fetch0_0 t0_0)).trans ?_
  exact read_arg (arg m c)

set_option maxRecDepth 4000 in
/-- The body runs from the one to the other. -/
theorem wp_body (c : Dev nD) :
    bodyPre m c ⊢ wp frame (wpE (defs₀ (F := F)) 𝒱₀ (c : Thread nD τ) none) Set.univ
        (cc0_body xM (Memref.isWhole_whole _) oM (Memref.isWhole_whole _) wM (Memref.isWhole_whole _) rM (Memref.isWhole_whole _)
          cc0_scratch2 cc0_scratch3 cc0_scratch4 cc0_scratch5 cc0_scratch6) (fun _ => bodyPost m c) := by
  unfold bodyPre Φ₀ start shared Dat.owesAt Pipeline.owesWithin
  iintro ⟨⟨⟨⟨%K, #HR, HK⟩, ⟨HC, Hcr⟩, #Hlev⟩, Hw, Hr⟩, ⟨%W, %hW, HO⟩, ⟨%d0, %g0, %hg0, Hx⟩, ⟨%d1, %g1, %hg1, Hout⟩⟩
  have hx : g0 = arg m c := hg0.trans (staged m c d0)
  subst hx
  ihave HS := (kept_stock (F := F) c) $$ [HK HC Hcr]
  · isplitl [HK]; · iexact HK
    isplitl [HC] <;> iassumption
  icases HS with ⟨HB, HS⟩
  iapply (wp_run (arg m) K c fun _ => bodyPost m c)
  isplitr; · iexact HR
  isplitr; · iexact Hlev
  isplitl
  · unfold runPre owing
    isplitl [HO]; · iexists W; iexact HO
    isplitl [HB]; · iexact HB
    isplitl [HS]; · iexact HS
    isplitl [Hx]; · iexact Hx
    isplitl [Hout]; · iexists g1; iexact Hout
    isplitl [Hw] <;> iassumption
  · unfold runPost bodyPost Φ₁ owing Dat.owesAt Pipeline.owesWithin
    iintro ⟨⟨%W', HO⟩, Hx, Hout, Hw, Hr, HzB, Hz⟩
    isplitl [Hw Hr HzB Hz]
    · isplitl [Hw]; · iexact Hw
      isplitl [Hr]; · iexact Hr
      isplitl [HzB] <;> iassumption
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

set_option maxRecDepth 100000 in
/-- So it meets the region's obligation. -/
theorem body_obligation (c : Dev nD) : BodyObligation (dats m 0 c) (defs₀ (F := F)) 𝒱₀ () Set.univ := fun t => by
  rw [show t = t0_0 from fin_N0 t, bigSep_W0, bigSep_W0]
  simp only [owns_buffer]
  exact wp_body m c

/-! ## Entry and exit -/

theorem ownSemFacts : Pipeline.OwnSemFacts cfg0.spec osem := by decide

/-- What the launch's ghost state starts from. -/
def u₀ : UU := (initOf (Pipeline.cells cfgs cellOf_inj) (Pipeline.launchToks cfgs cellOf_inj), initOf allCells allToks)

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred (fun d => due (allDues d)) c ∗ prngReg c (ρ c) ∗ shared (arg m) c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

/-- With the scratch buffers it is the region's start. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hw, Hr⟩
  isplitl [Hs]; · iexact Hs
  isplitl [Hw]; · iexact Hw
  iexact Hr

/-- The region's end gives all semaphores and the scratch buffers back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, barrier_sems]
  unfold Φ₁ Pipeline.ownSems0
  iintro ⟨Hw, Hr, HzB, Hz⟩
  isplitl [HzB]; · iexact HzB
  isplitl [Hz]; · iexact Hz
  isplitl [Hw]; · iexact Hw
  iexact Hr

/-- Every payment is above the waits for a block on its way in or out. -/
theorem all_above (c : Dev nD) : Above 0 (allDues c) := by
  unfold allDues outDues lendDues
  repeat' first | exact above_nil 0 | refine above_cons (by decide) ?_

/-- The waits for the blocks are in order. -/
theorem waits (c : Dev nD) : (levAts L lv : sProp 𝕄) ⊢ Pipeline.cellsWaits cfgs (dats m) () 0 c :=
  Pipeline.cellsWaits_intro cfgs (dats m) () 0 c fun w s t => by
    have hs : lv ((c : Thread nD τ), .dma ((cfg0.win w).sem s)) () ≤ 0 := by fin_cases w <;> fin_cases s <;> exact le_rfl
    rcases t with ⟨_ | _, ht⟩
    · exact mayWait_due c _ (allDues c) 0 hs (all_above c).wait
    · exact mayWait_due c _ [] 0 hs (above_nil 0).wait

/-! ## The run -/

/-- What an array of the call holds in the end. -/
def finalA (c : Dev nD) (w : Fin cfg0.W) : Buf (Elt F) ((cfg0.win w).arr.view.loc (c : Thread nD τ)) := (dats m 0 c).arrAt w cfg0.N

set_option maxRecDepth 8000 in
/-- On all 32 devices, for any float values, from any memory with all semaphores at zero, every fair execution ends, and in
    the end every array of the call holds `finalA` and every semaphore is at zero. -/
theorem run_arrays : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m) (hdistinct := winFacts0.arr_inj)
    (O₀ := fun d => due (allDues d)) (howed₀ := fun _ => rfl) (howedN := fun _ => rfl)
    (L := L) (lv := lv) (hL := L_of_ne) (hwaits := waits m)
    (G := dealt (arg m)) (G' := shared (arg m)) (u₀ := u₀)
    (hu₀ := by
      unfold u₀
      iintro Hu
      ihave H := (ownU_pair _ _) $$ Hu
      icases H with ⟨HP, HX⟩
      imod (fund_cells (arg m)) $$ HX with HG
      imodintro
      isplitl [HP] <;> iassumption)
    (hglob := deal (arg m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds what it held. -/
theorem finalA_arg (c : Dev nD) : finalA m c (0 : Fin 2) = arg m c := (dats m 0 c).arrAt_in (0 : Fin 2) rfl _

/-- The result array holds the result. -/
theorem finalA_res (c : Dev nD) : finalA m c (1 : Fin 2) = resultOf (arg m) := by
  refine (read_res (finalA m c (1 : Fin 2))).symm.trans ?_
  unfold finalA
  rw [show cfg0.N = (t0_0 : Fin cfg0.N).val + 1 from rfl, (dats m 0 c).arrAt_succ (1 : Fin 2) t0_0, if_pos (flush0_1 t0_0)]
  exact View.read_write_univ _ _

/-- Every fair execution ends with the argument of every device as it was, the same result on every device and every
    semaphore at zero. -/
theorem run_main : θ_run defs (onTc (τ := τ) (main (F := F))) ⟨m, fun _ => 0, ρ⟩
    (fun r => (∀ c : Dev nD, r.2.mem ((c : Thread nD τ).loc main_v1) = resultOf (arg m)
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (finalA_res m c), (h.1 c (0 : Fin 2)).trans (finalA_arg m c)⟩, h.2⟩)
    (run_arrays m ρ)

end Cert.CubeProof

end
-- ==== Proof.Equation.lean ====
/-
# The result is the sum

Over exact values the casts change nothing and the order of additions does not matter. After `t` steps a device holds
the sum over the `2 ^ t` devices of the subcube it has exchanged with, after five steps over all of them; and the sum
of all blocks is what the reference computes from the whole array.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.PureOps.Ideal.Laws

@[expose] public section

noncomputable section

namespace Cert.CubeProof

open Cert.KernelIdeal Cert.KernelIdeal.Gen
open Idealize.ShloMosaic Idealize.ShloMosaic.TcCoe Idealize.SL.Sem

/-- The devices whose blocks device `c` has added up after `t` steps of group `k`. -/
def cube (k : Fin 2) : ℕ → Dev nD → Finset (Dev nD)
  | 0, c => {c}
  | t + 1, c => if h : t < 5 then cube k t c ∪ cube k t (mate k ⟨t, h⟩ c) else cube k t c

/-- Two partners have nothing in common before they exchange, -/
theorem cube_disjoint : ∀ (k : Fin 2) (s : Fin 5) (c : Dev nD), Disjoint (cube k s.val c) (cube k s.val (mate k s c)) := by
  decide +kernel

/-- and after the five steps nothing is missing. -/
theorem cube_full : ∀ (k : Fin 2) (c : Dev nD), cube k 5 c = Finset.univ := by decide +kernel

variable (x : Dev nD → Vec Ideal S2048x512 .f32)

/-- The rounding to the working type changes nothing. -/
theorem pay_in (v : Vec Ideal S2048x512 .f32) (i : S2048x512.Idx) : (k0_pay1 v i : EReal) = v i := by
  unfold k0_pay1
  rw [shapeCast_self, shapeCast_self]
  rfl

/-- After `t` steps a device holds the sum over its subcube. -/
theorem part_sum (k : Fin 2) (i : S2048x512.Idx) : ∀ (t : ℕ), t ≤ 5 → ∀ c : Dev nD,
    (part x k t c i : EReal) = ∑ d ∈ cube k t c, (x d i : EReal)
  | 0, _, c => by
    rw [show cube k 0 c = {c} from rfl, Finset.sum_singleton]
    exact pay_in (x c) i
  | t + 1, ht, c => by
    have e := part_succ x k ⟨t, ht⟩ c i
    rw [show cube k (t + 1) c = cube k t c ∪ cube k t (mate k ⟨t, ht⟩ c) from dif_pos ht,
      Finset.sum_union (cube_disjoint k ⟨t, ht⟩ c), ← part_sum k i t (by omega) c, ← part_sum k i t (by omega) (mate k ⟨t, ht⟩ c)]
    exact e

/-- Every device's result is the sum of all blocks. -/
theorem result_sum (i : S2048x512.Idx) : (resultOf x i : EReal) = ∑ d : Dev nD, (x d i : EReal) := by
  have e : (resultOf x i : EReal) = total x i := rfl
  rw [e]
  unfold total
  rw [part_sum x _ i 5 le_rfl, cube_full]

/-- The reference's value of the whole array. -/
def spec (X : Vec Ideal Cert.ReferenceIdeal.S65536x512 .f32) : Vec Ideal S2048x512 .f32 :=
  Host.reduceAdd (F := Ideal) (shapeCast Cert.ReferenceIdeal.S32x2048x512 X Cert.ReferenceIdeal.Gen.facts.shapeCasts_S65536x512_S32x2048x512) (constant Cert.ReferenceIdeal.S_ .f32 0x00000000#32)
    Cert.ReferenceIdeal.Gen.facts.reducesTo_S32x2048x512_S2048x512_d0 Cert.ReferenceIdeal.Gen.facts.h_S_

/-- The block of the whole array that a device gets. -/
def blockOf (X : Vec Ideal Cert.ReferenceIdeal.S65536x512 .f32) (d : Dev nD) : Vec Ideal S2048x512 .f32 :=
  Layout.block S2048x512 Cert.ReferenceIdeal.S65536x512 0 32 d X

/-- Element by element, it is the sum over the 32 blocks of rows. -/
theorem spec_sum (X : Vec Ideal Cert.ReferenceIdeal.S65536x512 .f32) (i : S2048x512.Idx) :
    (spec X i : EReal) = ∑ d : Dev nD, (blockOf X d i : EReal) := by
  have hr : Cert.ReferenceIdeal.S32x2048x512.Reduces [0] Cert.ReferenceIdeal.S2048x512 := by decide
  unfold spec
  rw [ValueIdx.hostReduceAdd_apply, Ideal.hostReduceAdd_single _ hr]
  rw [show (constant (F := Ideal) Cert.ReferenceIdeal.S_ .f32 0x00000000#32 _ : EReal) = 0 from Ideal.ofBits_zero_f32, zero_add]
  refine Finset.sum_congr rfl fun d _ => ?_
  have ht : Layout.Tiles S2048x512 Cert.ReferenceIdeal.S65536x512 0 32 := by decide
  refine shapeCast_apply X _ (hr.lift i d) (ht.idx d i) ?_
  rw [Shape.rowMajor_val_two, Shape.rowMajor_val_three]
  show (d.val * 2048 + (i 0).val) * 512 + (i 1).val = (d.val * 2048 + (i 0).val) * 512 + (i 1).val
  rfl

/-- From its blocks the kernel computes the reference's value of the whole array. -/
theorem result_eq (X : Vec Ideal Cert.ReferenceIdeal.S65536x512 .f32)
    (h : ∀ d, x d = blockOf X d) : resultOf x = spec X := funext fun i => by
  refine ((result_sum x i).trans (Finset.sum_congr rfl fun d _ => ?_)).trans (spec_sum X i).symm
  rw [h d]

end Cert.CubeProof

end
-- ==== Proof.lean ====
/-
# The claim

The frames of the kernel, over machine words and over exact values, and of the reference; that the exact kernel is the
kernel itself; and that over exact values every device's result is the reference's.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.CubeProof

/-- Over exact values the kernel ends with its arguments as they were and every semaphore at zero. -/
theorem frame_ideal : Cert.quiescent_KernelIdeal := fun m ρ _ =>
  (θ_run Cert.KernelIdeal.defs _ _).mono (fun _ h => ⟨fun c => (h.1 c).2, h.2⟩) (run_main (F := Ideal) m ρ)

/-- The two printings of the kernel have the same bodies, -/
theorem same_bodies : @Cert.Kernel.defs₀ Bits _ _ = @Cert.KernelIdeal.defs₀ Bits _ _ := by
  unfold Cert.Kernel.defs₀ Cert.KernelIdeal.defs₀
  refine congrArg Defs.onTc (funext fun ℓ => funext fun a => ?_)
  match ℓ with
  | ⟨0, h⟩ =>
    obtain ⟨t, s⟩ := a
    rfl

/-- and so the same programs. -/
theorem same_programs : @Cert.Kernel.defs Bits _ _ = @Cert.KernelIdeal.defs Bits _ _ := congrArg (Pipeline.defs _) same_bodies

/-- Over machine words the kernel ends in the same way, -/
theorem frame_kernel : Cert.quiescent_Kernel := fun m ρ _ => by
  have h := (θ_run (Cert.KernelIdeal.defs (F := Bits)) _ _).mono
    (fun r (h : (∀ c : Dev Cert.KernelIdeal.nD, _ ∧ r.2.mem ((c : Thread Cert.KernelIdeal.nD Cert.KernelIdeal.τ).loc Cert.KernelIdeal.main_arg0) = _) ∧ _) =>
      (⟨fun c => (h.1 c).2, h.2⟩ : (∀ c : Dev Cert.KernelIdeal.nD, _) ∧ _)) (run_main (F := Bits) m ρ)
  rw [same_programs]
  exact h

/-- and so does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over exact values, where every device has its block of the reference's argument, every device's result is the
    reference's. -/
theorem values : Cert.algebraic_KernelIdeal_ReferenceIdeal := fun m ρ m' ρ' _ hm => by
  refine ⟨spec (m' (((0 : Dev Cert.ReferenceIdeal.nD) : Thread Cert.ReferenceIdeal.nD Cert.ReferenceIdeal.τ).loc Cert.ReferenceIdeal.main_arg0)), ?_, ?_⟩
  · refine (θ_run Cert.KernelIdeal.defs _ _).mono (fun _ h c => ⟨(h.1 c).1.trans ?_, (h.1 c).2⟩) (run_main (F := Ideal) m ρ)
    exact result_eq (arg m) _ hm
  · exact (θ_run Cert.ReferenceIdeal.defs _ _).mono (fun _ h => h 0) (Cert.ReferenceIdeal.Value.run m' ρ')

theorem claim : Cert.Claim :=
  ⟨Cert.Kernel.Gen.facts, Cert.KernelIdeal.Gen.facts, Cert.ReferenceIdeal.Gen.facts,
    frame_kernel, frame_ideal, frame_reference, trivial, values⟩

end Cert.Proof

end
